-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesReferenceIdeal (m : (ℓ : Loc Cert.CodesReferenceIdeal.nD Cert.CodesReferenceIdeal.τ Cert.CodesReferenceIdeal.sig) → Buf (Elt Ideal) ℓ) : Prop :=
  True

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ r.2.sem = fun _ => 0)

def quiescent_CodesReferenceIdeal [hCodesReferenceIdeal : Cert.CodesReferenceIdeal.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Codes_CodesIdeal : Prop :=
  True

def algebraic_CodesIdeal_CodesReferenceIdeal_on_clear_rows [hCodesIdeal : Cert.CodesIdeal.Facts] [hCodesReferenceIdeal : Cert.CodesReferenceIdeal.Facts] [hOn_clear_rows : Cert.On_clear_rows.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesReferenceIdeal.nD Cert.CodesReferenceIdeal.τ Cert.CodesReferenceIdeal.sig) → Buf (Elt Ideal) ℓ) (g' : Dev Cert.CodesReferenceIdeal.nD → PrngReg), Pre_CodesIdeal m →
    (∀ c : Dev Cert.CodesIdeal.nD,
      m' ((c.tc : Thread Cert.CodesReferenceIdeal.nD Cert.CodesReferenceIdeal.τ).loc Cert.CodesReferenceIdeal.main_arg0) = m ((c.tc : Thread Cert.CodesIdeal.nD Cert.CodesIdeal.τ).loc Cert.CodesIdeal.main_arg0)
      ∧ m' ((c.tc : Thread Cert.CodesReferenceIdeal.nD Cert.CodesReferenceIdeal.τ).loc Cert.CodesReferenceIdeal.main_arg1) = m ((c.tc : Thread Cert.CodesIdeal.nD Cert.CodesIdeal.τ).loc Cert.CodesIdeal.main_arg1)) →
    ∃ (v0 : (c : Dev Cert.CodesIdeal.nD) → Buf (Elt Ideal) ((c.tc : Thread Cert.CodesIdeal.nD Cert.CodesIdeal.τ).loc Cert.CodesIdeal.main_v1_0)) (v1 : (c : Dev Cert.CodesIdeal.nD) → Buf (Elt Ideal) ((c.tc : Thread Cert.CodesIdeal.nD Cert.CodesIdeal.τ).loc Cert.CodesIdeal.main_v1_1)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          (∀ i : (⟨1, ![16384]⟩ : Shape).Idx, (Cert.On_clear_rows.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))).1 i = 1#1 → r.2.mem ((c.tc : Thread Cert.CodesIdeal.nD Cert.CodesIdeal.τ).loc Cert.CodesIdeal.main_v1_0) i = v0 c i)
          ∧ (∀ i : (⟨3, ![16, 1, 1]⟩ : Shape).Idx, (Cert.On_clear_rows.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))).2 i = 1#1 → r.2.mem ((c.tc : Thread Cert.CodesIdeal.nD Cert.CodesIdeal.τ).loc Cert.CodesIdeal.main_v1_1) i = v1 c i)
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1))
      ∧ θ_run (Cert.CodesReferenceIdeal.defs (F := Ideal)) (onTc (τ := Cert.CodesReferenceIdeal.τ) (Cert.CodesReferenceIdeal.main (F := Ideal))) ⟨m', fun _ => 0, g'⟩ (fun r => ∀ c : Dev Cert.CodesReferenceIdeal.nD,
          (∀ i : (⟨1, ![16384]⟩ : Shape).Idx, (Cert.On_clear_rows.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))).1 i = 1#1 → r.2.mem ((c.tc : Thread Cert.CodesReferenceIdeal.nD Cert.CodesReferenceIdeal.τ).loc Cert.CodesReferenceIdeal.main_v16) i = v0 c i)
          ∧ (∀ i : (⟨3, ![16, 1, 1]⟩ : Shape).Idx, (Cert.On_clear_rows.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1))).2 i = 1#1 → r.2.mem ((c.tc : Thread Cert.CodesReferenceIdeal.nD Cert.CodesReferenceIdeal.τ).loc Cert.CodesReferenceIdeal.main_v29) i = v1 c i)
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1))

def Claim : Prop :=
  ∃ (hKernel : Cert.Kernel.Facts) (hKernelIdeal : Cert.KernelIdeal.Facts) (hReferenceIdeal : Cert.ReferenceIdeal.Facts) (hCodes : Cert.Codes.Facts) (hCodesIdeal : Cert.CodesIdeal.Facts) (hCodesReferenceIdeal : Cert.CodesReferenceIdeal.Facts) (hPre_codes_in_range : Cert.Pre_codes_in_range.Facts) (hOn_clear_rows : Cert.On_clear_rows.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ quiescent_Codes (hCodes := hCodes)
    ∧ quiescent_CodesIdeal (hCodesIdeal := hCodesIdeal)
    ∧ quiescent_CodesReferenceIdeal (hCodesReferenceIdeal := hCodesReferenceIdeal)
    ∧ preserves_Kernel_KernelIdeal
    ∧ algebraic_KernelIdeal_ReferenceIdeal (hKernelIdeal := hKernelIdeal) (hReferenceIdeal := hReferenceIdeal) (hPre_codes_in_range := hPre_codes_in_range)
    ∧ preserves_Codes_CodesIdeal
    ∧ algebraic_CodesIdeal_CodesReferenceIdeal_on_clear_rows (hCodesIdeal := hCodesIdeal) (hCodesReferenceIdeal := hCodesReferenceIdeal) (hOn_clear_rows := hOn_clear_rows)
-- ==== On_clear_rows.lean ====
abbrev S16x1024x256 : Shape := ⟨3, ![16, 1024, 256]⟩
abbrev S8192x256 : Shape := ⟨2, ![8192, 256]⟩
abbrev S16384x256 : Shape := ⟨2, ![16384, 256]⟩
abbrev S_ : Shape := ⟨0, ![]⟩
abbrev S256x8192 : Shape := ⟨2, ![256, 8192]⟩
abbrev S16384x8192 : Shape := ⟨2, ![16384, 8192]⟩
abbrev S8192 : Shape := ⟨1, ![8192]⟩
abbrev S16384 : Shape := ⟨1, ![16384]⟩
abbrev S16384x1 : Shape := ⟨2, ![16384, 1]⟩
abbrev S16x1x1 : Shape := ⟨3, ![16, 1, 1]⟩

class Facts : Prop where
  shapeCasts_S16x1024x256_S16384x256 : S16x1024x256.ShapeCasts S16384x256
  bcast_S_S16384x256 : S_.BroadcastsInDim S16384x256 (![] : Fin 0 → Fin S16384x256.rank)
  transposes_S8192x256_S256x8192_1_0 : S8192x256.Transposes [1, 0] S256x8192
  reducesTo_S8192x256_S8192_d1 : S8192x256.ReducesTo [1] S8192
  h_S_ : 0 < S_.numel
  reducesTo_S16384x8192_S16384_d1 : S16384x8192.ReducesTo [1] S16384
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  reducesTo_S8192_S_d0 : S8192.ReducesTo [0] S_
  bcast_S_S16384x8192 : S_.BroadcastsInDim S16384x8192 (![] : Fin 0 → Fin S16384x8192.rank)
  reducesTo_S16384x256_S16384_d1 : S16384x256.ReducesTo [1] S16384
  bcast_S_S8192x256 : S_.BroadcastsInDim S8192x256 (![] : Fin 0 → Fin S8192x256.rank)
  reducesTo_S8192x256_S_d0_1 : S8192x256.ReducesTo [0, 1] S_
  bcast_S_S16384 : S_.BroadcastsInDim S16384 (![] : Fin 0 → Fin S16384.rank)
  bcast_S_S16x1x1 : S_.BroadcastsInDim S16x1x1 (![] : Fin 0 → Fin S16x1x1.rank)
  dot_S16384x256_S256x8192_S16384x8192_1_0_0_1_n_n_wf : DotDims.WF S16384x256 S256x8192 S16384x8192 [1] [0] [0] [1] [] []

variable [Facts]

variable {F : FTy → Type} [FloatOps F]
def dot_S16384x256_S256x8192_S16384x8192_1_0_0_1_n_n : DotDims S16384x256 S256x8192 S16384x8192 where
  lhsContracting := [1]
  rhsContracting := [0]
  lhsNonContracting := [0]
  rhsNonContracting := [1]
  lhsBatch := []
  rhsBatch := []
  wf := dot_S16384x256_S256x8192_S16384x8192_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S16384x8192 .f32) : IVec S16384 32 :=
  let v0 : IVec S16384x8192 32 := iotaInDim S16384x8192 32 1
  let cst : FVec F S_ .f32 := constant S_ .f32 0xFF800000#32
  let c : IVec S_ 32 := constantI S_ 32 0#32
  let v1_0 : FVec F S16384 .f32 := (fun x y u v j => (Host.argReduce reducer_argmax_f32_i32 x y u v reducesTo_S16384x8192_S16384_d1 h_S_ j).1) arg0 v0 cst c
  let v1_1 : IVec S16384 32 := (fun x y u v j => (Host.argReduce reducer_argmax_f32_i32 x y u v reducesTo_S16384x8192_S16384_d1 h_S_ j).2) arg0 v0 cst c
  v1_1

def fn_part1 {F : FTy → Type} [FloatOps F] (main_arg1 : FVec F S8192x256 .f32) (main_v0 : FVec F S16384x256 .f32) (main_v10 : FVec F S16384x8192 .f32) (main_v15 : IVec S16384x8192 1) (main_v18 : FVec F S_ .f32) : IVec S16384 1 × IVec S16x1x1 1 :=
  let main_v19 : FVec F S16384x8192 .f32 := broadcastInDim S16384x8192 ![] bcast_S_S16384x8192 main_v18
  let main_v20 : IVec S16384x8192 1 := cmpf .ogt main_v10 main_v19
  let main_v21 : IVec S16384x8192 1 := ori main_v15 main_v20
  let main_c : IVec S_ 1 := constantI S_ 1 1#1
  let main_v22 : IVec S16384 1 := (fun x v => Host.reduce IntOp.andi x v reducesTo_S16384x8192_S16384_d1 h_S_) main_v21 main_c
  let main_v23 : FVec F S16384x256 .f32 := Host.absf main_v0
  let main_cst_4 : FVec F S_ .f32 := constant S_ .f32 0x7F800000#32
  let main_v24 : FVec F S16384x256 .f32 := broadcastInDim S16384x256 ![] bcast_S_S16384x256 main_cst_4
  let main_v25 : IVec S16384x256 1 := cmpf .olt main_v23 main_v24
  let main_c_5 : IVec S_ 1 := constantI S_ 1 1#1
  let main_v26 : IVec S16384 1 := (fun x v => Host.reduce IntOp.andi x v reducesTo_S16384x256_S16384_d1 h_S_) main_v25 main_c_5
  let main_v27 : IVec S16384 1 := andi main_v22 main_v26
  let main_v28 : FVec F S8192x256 .f32 := Host.absf main_arg1
  let main_cst_6 : FVec F S_ .f32 := constant S_ .f32 0x7F800000#32
  let main_v29 : FVec F S8192x256 .f32 := broadcastInDim S8192x256 ![] bcast_S_S8192x256 main_cst_6
  let main_v30 : IVec S8192x256 1 := cmpf .olt main_v28 main_v29
  let main_c_7 : IVec S_ 1 := constantI S_ 1 1#1
  let main_v31 : IVec S_ 1 := (fun x v => Host.reduce IntOp.andi x v reducesTo_S8192x256_S_d0_1 h_S_) main_v30 main_c_7
  let main_v32 : IVec S16384 1 := broadcastInDim S16384 ![] bcast_S_S16384 main_v31
  let main_v33 : IVec S16384 1 := andi main_v27 main_v32
  let main_c_8 : IVec S_ 1 := constantI S_ 1 1#1
  let main_v34 : IVec S16x1x1 1 := broadcastInDim S16x1x1 ![] bcast_S_S16x1x1 main_c_8
  (main_v33, main_v34)

def fn {F : FTy → Type} [FloatOps F] (main_arg0 : FVec F S16x1024x256 .f32) (main_arg1 : FVec F S8192x256 .f32) : IVec S16384 1 × IVec S16x1x1 1 :=
  let main_v0 : FVec F S16384x256 .f32 := shapeCast S16384x256 main_arg0 shapeCasts_S16x1024x256_S16384x256
  let main_cst : FVec F S_ .f32 := constant S_ .f32 0x40000000#32
  let main_v1 : FVec F S16384x256 .f32 := broadcastInDim S16384x256 ![] bcast_S_S16384x256 main_cst
  let main_v2 : FVec F S16384x256 .f32 := mulf main_v1 main_v0
  let main_v3 : FVec F S256x8192 .f32 := (transpose S256x8192 [1, 0] · transposes_S8192x256_S256x8192_1_0) main_arg1
  let main_v4 : FVec F S16384x8192 .f32 := (fun l r => Host.dotGeneral dot_S16384x256_S256x8192_S16384x8192_1_0_0_1_n_n none l r) main_v2 main_v3
  let main_v5 : FVec F S8192x256 .f32 := mulf main_arg1 main_arg1
  let main_cst_0 : FVec F S_ .f32 := constant S_ .f32 0x00000000#32
  let main_v6 : FVec F S8192 .f32 := (fun x v => Host.reduceAdd x v reducesTo_S8192x256_S8192_d1 h_S_) main_v5 main_cst_0
  let main_cst_1 : FVec F S_ .f32 := constant S_ .f32 0xFF800000#32
  let main_v7 : FVec F S16384 .f32 := (fun x v => Host.reduce FloatOps.maximumf x v reducesTo_S16384x8192_S16384_d1 h_S_) main_v4 main_cst_1
  let main_v8 : FVec F S16384x1 .f32 := broadcastInDim S16384x1 ![0] bcast_S16384_S16384x1_0 main_v7
  let main_v9 : FVec F S16384x8192 .f32 := broadcastInDim S16384x8192 ![0, 1] bcast_S16384x1_S16384x8192_0_1 main_v8
  let main_v10 : FVec F S16384x8192 .f32 := subf main_v9 main_v4
  let main_v11 : IVec S16384 32 := fn_argmax (F := F) main_v4
  let main_v12 : IVec S16384x8192 32 := iotaInDim S16384x8192 32 1
  let main_v13 : IVec S16384x1 32 := broadcastInDim S16384x1 ![0] bcast_S16384_S16384x1_0 main_v11
  let main_v14 : IVec S16384x8192 32 := broadcastInDim S16384x8192 ![0, 1] bcast_S16384x1_S16384x8192_0_1 main_v13
  let main_v15 : IVec S16384x8192 1 := cmpi .eq main_v12 main_v14
  let main_cst_2 : FVec F S_ .f32 := constant S_ .f32 0xFF800000#32
  let main_v16 : FVec F S_ .f32 := (fun x v => Host.reduce FloatOps.maximumf x v reducesTo_S8192_S_d0 h_S_) main_v6 main_cst_2
  let main_cst_3 : FVec F S_ .f32 := constant S_ .f32 0x7F800000#32
  let main_v17 : FVec F S_ .f32 := (fun x v => Host.reduce FloatOps.minimumf x v reducesTo_S8192_S_d0 h_S_) main_v6 main_cst_3
  let main_v18 : FVec F S_ .f32 := subf main_v16 main_v17
  fn_part1 (F := F) main_arg1 main_v0 main_v10 main_v15 main_v18
-- ==== Pre_codes_in_range.lean ====
abbrev S16x1024x256 : Shape := ⟨3, ![16, 1024, 256]⟩
abbrev S8192x256 : Shape := ⟨2, ![8192, 256]⟩
abbrev S16x1024 : Shape := ⟨2, ![16, 1024]⟩
abbrev S_ : Shape := ⟨0, ![]⟩
abbrev S16x1024x1 : Shape := ⟨3, ![16, 1024, 1]⟩

class Facts : Prop where
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S_S16x1024x256 : S_.BroadcastsInDim S16x1024x256 (![] : Fin 0 → Fin S16x1024x256.rank)
  bcast_S16x1024x1_S16x1024x256_0_1_2 : S16x1024x1.BroadcastsInDim S16x1024x256 (![0, 1, 2] : Fin 3 → Fin S16x1024x256.rank)

variable [Facts]

def fn {F : FTy → Type} [FloatOps F] (main_arg0 : FVec F S16x1024x256 .f32) (main_arg1 : FVec F S8192x256 .f32) (main_arg2 : IVec S16x1024 32) : IVec S16x1024x256 1 :=
  let main_c : IVec S_ 32 := constantI S_ 32 0#32
  let main_v0 : IVec S16x1024 32 := broadcastInDim S16x1024 ![] bcast_S_S16x1024 main_c
  let main_v1 : IVec S16x1024 1 := cmpi .sge main_arg2 main_v0
  let main_c_0 : IVec S_ 32 := constantI S_ 32 8192#32
  let main_v2 : IVec S16x1024 32 := broadcastInDim S16x1024 ![] bcast_S_S16x1024 main_c_0
  let main_v3 : IVec S16x1024 1 := cmpi .slt main_arg2 main_v2
  let main_v4 : IVec S16x1024 1 := andi main_v1 main_v3
  let main_v5 : IVec S16x1024x1 1 := broadcastInDim S16x1024x1 ![0, 1] bcast_S16x1024_S16x1024x1_0_1 main_v4
  let main_v6 : FVec F S16x1024x256 .f32 := Host.absf main_arg0
  let main_cst : FVec F S_ .f32 := constant S_ .f32 0x7F800000#32
  let main_v7 : FVec F S16x1024x256 .f32 := broadcastInDim S16x1024x256 ![] bcast_S_S16x1024x256 main_cst
  let main_v8 : IVec S16x1024x256 1 := cmpf .olt main_v6 main_v7
  let main_v9 : IVec S16x1024x256 1 := broadcastInDim S16x1024x256 ![0, 1, 2] bcast_S16x1024x1_S16x1024x256_0_1_2 main_v5
  let main_v10 : IVec S16x1024x256 1 := andi main_v9 main_v8
  main_v10
-- ==== Kernel.lean ====
abbrev S16x1024x256 : Shape := ⟨3, ![16, 1024, 256]⟩
abbrev S8192x256 : Shape := ⟨2, ![8192, 256]⟩
abbrev S16x1024 : Shape := ⟨2, ![16, 1024]⟩
abbrev S8192x2x128 : Shape := ⟨3, ![8192, 2, 128]⟩
abbrev S16384 : Shape := ⟨1, ![16384]⟩
abbrev S16384x2x128 : Shape := ⟨3, ![16384, 2, 128]⟩
abbrev S512 : Shape := ⟨1, ![512]⟩
abbrev S2x128x2x128 : Shape := ⟨4, ![2, 128, 2, 128]⟩
abbrev S2 : Shape := ⟨1, ![2]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S1 : Shape := ⟨1, ![1]⟩

abbrev nBuf : Table → Nat
  | .hbm => 7
  | .local .scVector .vmem => 2
  | _ => 0

abbrev bufTy : (tb : Table) → Fin (nBuf tb) → BufTy
  | .hbm, ⟨0, _⟩ => ⟨S16x1024x256, .f32⟩
  | .hbm, ⟨1, _⟩ => ⟨S8192x256, .f32⟩
  | .hbm, ⟨2, _⟩ => ⟨S16x1024, .i32⟩
  | .hbm, ⟨3, _⟩ => ⟨S8192x2x128, .f32⟩
  | .hbm, ⟨4, _⟩ => ⟨S16384, .i32⟩
  | .hbm, ⟨5, _⟩ => ⟨S16384x2x128, .f32⟩
  | .hbm, ⟨6, _⟩ => ⟨S16x1024x256, .f32⟩
  | .local .scVector .vmem, ⟨0, _⟩ => ⟨S512, .i32⟩
  | .local .scVector .vmem, ⟨1, _⟩ => ⟨S2x128x2x128, .f32⟩
  | _, _ => ⟨S16x1024x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_24 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v21 : BitVec 32 := Scalar.addi v2 c0_i32_24
  let c0_i32_78_r1 : BitVec 32 := 0#32
  let c0_i32_79_r1 : BitVec 32 := 0#32
  ![v21.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x256 : Shape := ⟨3, ![16, 1024, 256]⟩
abbrev S8192x256 : Shape := ⟨2, ![8192, 256]⟩
abbrev S16x1024 : Shape := ⟨2, ![16, 1024]⟩
abbrev S_ : Shape := ⟨0, ![]⟩
abbrev S16x1024x1 : Shape := ⟨3, ![16, 1024, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16x1024, .i32⟩
  | .hbm, ⟨3, _⟩ => ⟨S_, .i32⟩
  | .hbm, ⟨4, _⟩ => ⟨S16x1024, .i32⟩
  | .hbm, ⟨5, _⟩ => ⟨S16x1024, .i1⟩
  | .hbm, ⟨6, _⟩ => ⟨S_, .i32⟩
  | .hbm, ⟨7, _⟩ => ⟨S16x1024, .i32⟩
  | .hbm, ⟨8, _⟩ => ⟨S16x1024, .i32⟩
  | .hbm, ⟨9, _⟩ => ⟨S16x1024, .i32⟩
  | .hbm, ⟨10, _⟩ => ⟨S16x1024x1, .i32⟩
  | .hbm, ⟨11, _⟩ => ⟨S1, .i32⟩
  | .hbm, ⟨12, _⟩ => ⟨S_, .i32⟩
  | .hbm, ⟨13, _⟩ => ⟨S16x1024x1, .i32⟩
  | .hbm, ⟨14, _⟩ => ⟨S16x1024x1, .i1⟩
  | .hbm, ⟨15, _⟩ => ⟨S1x1x1, .i32⟩
  | .hbm, ⟨16, _⟩ => ⟨S16x1024x1, .i32⟩
  | .hbm, ⟨17, _⟩ => ⟨S16x1024x1, .i1⟩
  | .hbm, ⟨18, _⟩ => ⟨S16x1024x1, .i1⟩
  | .hbm, ⟨19, _⟩ => ⟨S_, .i1⟩
  | .hbm, ⟨20, _⟩ => ⟨S16x1024, .i1⟩
  | .hbm, ⟨21, _⟩ => ⟨S16x1024x256, .f32⟩
  | .hbm, ⟨22, _⟩ => ⟨S16x1024x256, .i1⟩
  | .hbm, ⟨23, _⟩ => ⟨S_, .f32⟩
  | .hbm, ⟨24, _⟩ => ⟨S16x1024x256, .f32⟩
  | .hbm, ⟨25, _⟩ => ⟨S16x1024x256, .f32⟩
  | .hbm, ⟨26, _⟩ => ⟨S16x1024x256, .f32⟩
  | .hbm, ⟨27, _⟩ => ⟨S16x1024x256, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Codes.lean ====
abbrev S16x1024x256 : Shape := ⟨3, ![16, 1024, 256]⟩
abbrev S8192x256 : Shape := ⟨2, ![8192, 256]⟩
abbrev S16384x256 : Shape := ⟨2, ![16384, 256]⟩
abbrev S16384 : Shape := ⟨1, ![16384]⟩
abbrev S16x1x1 : Shape := ⟨3, ![16, 1, 1]⟩
abbrev S1024x256 : Shape := ⟨2, ![1024, 256]⟩
abbrev S1024 : Shape := ⟨1, ![1024]⟩
abbrev S1x1x1 : Shape := ⟨3, ![1, 1, 1]⟩
abbrev S1024x2048 : Shape := ⟨2, ![1024, 2048]⟩
abbrev S2048x256 : Shape := ⟨2, ![2048, 256]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1 : Shape := ⟨2, ![1, 1]⟩

abbrev nBuf : Space → Nat
  | .hbm => 5
  | .vmem => 9
  | .smem => 2
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16384x256, .f32⟩
  | .hbm, ⟨3, _⟩ => ⟨S16384, .i32⟩
  | .hbm, ⟨4, _⟩ => ⟨S16x1x1, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024, .i32⟩
  | .local _ .vmem, ⟨4, _⟩ => ⟨S1024, .i32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .smem, ⟨0, _⟩ => ⟨S1x1x1, .f32⟩
  | .local _ .smem, ⟨1, _⟩ => ⟨S1x1x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_stg3_0 : Ref sig .tc := ⟨.smem, 0, rfl⟩
abbrev cc0_stg3_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CodesReferenceIdeal.lean ====
abbrev S16x1024x256 : Shape := ⟨3, ![16, 1024, 256]⟩
abbrev S8192x256 : Shape := ⟨2, ![8192, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S256x8192 : Shape := ⟨2, ![256, 8192]⟩
abbrev S16384x8192 : Shape := ⟨2, ![16384, 8192]⟩
abbrev S8192 : Shape := ⟨1, ![8192]⟩
abbrev S1x8192 : Shape := ⟨2, ![1, 8192]⟩
abbrev S16x1024 : Shape := ⟨2, ![16, 1024]⟩
abbrev S16 : Shape := ⟨1, ![16]⟩
abbrev S16x1x1 : Shape := ⟨3, ![16, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S256x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x256, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S256x8192, .f32⟩
  | .hbm, ⟨34, _⟩ => ⟨S16384x8192, .f32⟩
  | .hbm, ⟨35, _⟩ => ⟨S16384x8192, .f32⟩
  | .hbm, ⟨36, _⟩ => ⟨S16384x8192, .f32⟩
  | .hbm, ⟨37, _⟩ => ⟨S_, .f32⟩
  | .hbm, ⟨38, _⟩ => ⟨S16384, .f32⟩
  | .hbm, ⟨39, _⟩ => ⟨S16x1024, .f32⟩
  | .hbm, ⟨40, _⟩ => ⟨S_, .f32⟩
  | .hbm, ⟨41, _⟩ => ⟨S16, .f32⟩
  | .hbm, ⟨42, _⟩ => ⟨S16x1x1, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Gather.Setup.lean ====
/-
  The SparseCore call of `Kernel`, as the launch theorem sees it: the program's labels and handshakes, the buffers and
  the pieces of them that each of the thirty-two vector subcores works on. Subcore `s` of SparseCore `c` is worker
  `2 s + c`; it owns 512 consecutive row numbers, reads the table through a share of it, and writes 512 consecutive rows
  of the result in four chunks of 128.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Kernel.Rows

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's launch -/

abbrev ΛP : Labels := Pipeline.Sig Λ₀ (Fin 0) fun p => (pcfgs (F := F) p).Adm
abbrev K : SparseCore.Cfg τ sig (ΛP (F := F)) 1 := sc (F := F)
theorem cores_eq : (K (F := F)).nCore 0 = 2 := rfl
theorem subs_eq : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct, and nobody else's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table, the row numbers and the result of the call, on device `d`. -/
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev tV : Memref sig .scVector .hbm S8192x2x128 .f32 := Memref.whole main_v0_scv
abbrev iV : Memref sig .scVector .hbm S16384 .i32 := Memref.whole main_v1_scv
abbrev oV : Memref sig .scVector .hbm S16384x2x128 .f32 := Memref.whole main_v2_scv
abbrev nV : Memref sig .scVector .vmem S512 .i32 := Memref.whole cc0_scratch0
abbrev rV : Memref sig .scVector .vmem S2x128x2x128 .f32 := Memref.whole cc0_scratch1

/-! ## The pieces -/

theorem idiv : 32 ∣ S16384.size 0 := ⟨512, rfl⟩
theorem odiv : 128 ∣ S16384x2x128.size 0 := ⟨128, rfl⟩

/-- Worker `2 s + c`, and its chunk `r` among the result's 128 chunks. -/
abbrev wid (c : Fin 2) (s : Fin 16) : Fin 32 := ⟨2 * s.val + c.val, by omega⟩
abbrev cid (c : Fin 2) (s : Fin 16) (r : Fin 4) : Fin 128 := ⟨8 * s.val + 4 * c.val + r.val, by omega⟩

/-- The 512 row numbers of a worker, and the 128 result rows of one of its chunks. -/
abbrev iPart (c : Fin 2) (s : Fin 16) : Finset S16384.Idx := (Rect.part (s := S16384) (a₀ := 0) idiv (wid c s)).set
abbrev oPart (c : Fin 2) (s : Fin 16) (r : Fin 4) : Finset S16384x2x128.Idx := (Rect.part (s := S16384x2x128) (a₀ := 0) odiv (cid c s r)).set

/-- The share of the table a SparseCore holds, and the one a worker holds. -/
abbrev coreQ (c : Fin 2) : PosShare TreeShare := Idealize.ShloMosaic.pieceOf fullShare 2 (by decide) c
abbrev tileQ (c : Fin 2) (s : Fin 16) : PosShare TreeShare := Idealize.ShloMosaic.pieceOf (coreQ c) 16 (by decide) s

/-- What the call computes: row `j` of the result is the table's row `idx j`. -/
def rowsOf (ft : S8192x2x128.Idx → Elt F .f32) (fi : S16384.Idx → Elt F .i32) : S16384x2x128.Idx → Elt F .f32 := fun j =>
  ft (fun
    | 0 => ⟨(fi (fun | 0 => j 0 | ⟨_ + 1, h⟩ => absurd h (Nat.not_lt.2 (Nat.le_add_left _ _)))).toNat % 8192, Nat.mod_lt _ (by decide)⟩
    | 1 => j 1
    | 2 => j 2
    | ⟨_ + 3, h⟩ => absurd h (Nat.not_lt.2 (Nat.le_add_left _ _)))

/-! ## What a subcore addresses -/

section Tile

variable (L : grid0.Coords)

abbrev cV : Fin τ.nSC := (L 0).castLE hcore0
abbrev sV : Fin τ.nSub := (L 1).castLE hsub0
theorem bound_core : grid0.bound 0 = 2 := rfl
theorem bound_sub : grid0.bound 1 = 16 := rfl
abbrev cL : Fin 2 := Fin.cast bound_core (L 0)
abbrev sL : Fin 16 := Fin.cast bound_sub (L 1)

/-- The worker's row numbers in HBM. -/
abbrev iK : Memref sig .scVector .hbm S512 .i32 := (iV).slice (Rect.unit (s := S16384) (k0_off1 L) S512.size (k0_off1_inb L)) (fun _ => rfl)
/-- Chunk `r` of the worker's result rows. -/
abbrev oK (r : Fin 4) : Memref sig .scVector .hbm S128x2x128 .f32 :=
  (oV).slice (Rect.unit (s := S16384x2x128) (k0_off2 L (BitVec.ofNat 32 (128 * r.val))) S128x2x128.size (k0_off2_inb L r)) (fun _ => rfl)
/-- The table, whole. -/
abbrev tK : Memref sig .scVector .hbm S8192x2x128 .f32 :=
  (tV).slice (Rect.unit (s := S8192x2x128) ![0, 0, 0] S8192x2x128.size inb_S8192x2x128_S8192x2x128_0_0_0) (fun _ => rfl)

end Tile

theorem lst_inb (r : Fin 4) : ∀ a, (![128 * r.val] : Fin 1 → ℕ) a + S128.size a ≤ S512.size a := by revert r; decide
theorem slot_inb (j : Fin 2) : ∀ a, (![j.val, 0, 0, 0] : Fin 4 → ℕ) a + S1x128x2x128.size a ≤ S2x128x2x128.size a := by revert j; decide

/-- Chunk `r` of the fetched row numbers. -/
abbrev lK (r : Fin 4) : Memref sig .scVector .vmem S128 .i32 := (nV).slice (Rect.unit (s := S512) ![128 * r.val] S128.size (lst_inb r)) (fun _ => rfl)
/-- Slot `j` of the two row buffers. -/
abbrev bK (j : Fin 2) : Memref sig .scVector .vmem S128x2x128 .f32 :=
  ((rV).slice (Rect.unit (s := S2x128x2x128) ![j.val, 0, 0, 0] S1x128x2x128.size (slot_inb j)) (fun _ => rfl)).squeeze S128x2x128 squeezes_S1x128x2x128_S128x2x128

/-! ### Their elements -/

theorem iK_set (L : grid0.Coords) : (iK L).view.set = iPart (cL L) (sL L) := by
  have e : Rect.unit (s := S16384) (k0_off1 L) S512.size (k0_off1_inb L) = Rect.part (s := S16384) (a₀ := 0) idiv (wid (cL L) (sL L)) := by
    unfold Rect.part Rect.block
    congr 1 <;> funext a
    · rw [k0_off1_eq]
      match a with
      | 0 => simp [Shape.partIx, Shape.partSize]; omega
    · match a with
      | 0 => simp [Shape.partSize]
  show ((View.whole (main_v1_scv : Ref sig .scVector)).slice (Rect.unit (s := S16384) (k0_off1 L) S512.size (k0_off1_inb L))).set = _
  rw [View.set_slice]
  exact Finset.map_refl.trans (congrArg (fun ρ : Rect S16384 => ρ.set) e)

theorem oK_set (L : grid0.Coords) (r : Fin 4) : (oK L r).view.set = oPart (cL L) (sL L) r := by
  have e : Rect.unit (s := S16384x2x128) (k0_off2 L (BitVec.ofNat 32 (128 * r.val))) S128x2x128.size (k0_off2_inb L r)
      = Rect.part (s := S16384x2x128) (a₀ := 0) odiv (cid (cL L) (sL L) r) := by
    unfold Rect.part Rect.block
    congr 1 <;> funext a
    · rw [k0_off2_eq]
      match a with
      | 0 => simp [Shape.partIx, Shape.partSize]; omega
      | 1 => simp [Shape.partIx, Shape.partSize]
      | 2 => simp [Shape.partIx, Shape.partSize]
    · match a with
      | 0 => simp [Shape.partSize]
      | 1 => simp [Shape.partSize]
      | 2 => simp [Shape.partSize]
  show ((View.whole (main_v2_scv : Ref sig .scVector)).slice (Rect.unit (s := S16384x2x128) (k0_off2 L (BitVec.ofNat 32 (128 * r.val))) S128x2x128.size (k0_off2_inb L r))).set = _
  rw [View.set_slice]
  exact Finset.map_refl.trans (congrArg (fun ρ : Rect S16384x2x128 => ρ.set) e)

/-! ### What the gather of a chunk reads -/

theorem tK_val (i : S8192x2x128.Idx) (b : Fin 3) : ((tK).view.emb i b).val = (i b).val := by
  show (![0, 0, 0] : Fin 3 → ℕ) b + 1 * (i b).val = _
  match b with
  | 0 => simp
  | 1 => simp
  | 2 => simp

theorem lK_val (r : Fin 4) (i : S128.Idx) (b : Fin 1) : ((lK r).view.emb i b).val = 128 * r.val + (i b).val := by
  show (![128 * r.val] : Fin 1 → ℕ) b + 1 * (i b).val = _
  match b with
  | 0 => simp

theorem iK_val (L : grid0.Coords) (i : S512.Idx) (b : Fin 1) :
    ((iK L).view.emb i b).val = 1024 * (L 1).val + 512 * (L 0).val + (i b).val := by
  show (k0_off1 L : Fin 1 → ℕ) b + 1 * (i b).val = _
  rw [k0_off1_eq]
  match b with
  | 0 => simp

theorem oK_val (L : grid0.Coords) (r : Fin 4) (i : S128x2x128.Idx) (b : Fin 3) : ((oK L r).view.emb i b).val
    = (![1024 * (L 1).val + 512 * (L 0).val + 128 * r.val, 0, 0] : Fin 3 → ℕ) b + (i b).val := by
  show (k0_off2 L (BitVec.ofNat 32 (128 * r.val)) : Fin 3 → ℕ) b + 1 * (i b).val = _
  rw [k0_off2_eq, one_mul]

/-- The fetched row numbers are in range, chunk by chunk. -/
theorem list_inb (L : grid0.Coords) (r : Fin 4) (fi : S16384.Idx → Elt F .i32) (hlt : ∀ j, (fi j).toNat < 8192) :
    ∀ x, ((lK r).view.read (Elt F) ((iK L).view.read (Elt F) fi) x).toNat < S8192x2x128.size gathers_S8192x2x128_S128x2x128.axis := by
  intro x
  rw [View.read_apply, cast_eq, View.read_apply, cast_eq]
  exact hlt _

/-- The chunk the stream delivers is the chunk the call means: with the fetched list at the worker's row numbers, every
    one below 8192, row `x` of chunk `r` is the row of the result that the chunk's place in it names. -/
theorem payload_eq (L : grid0.Coords) (r : Fin 4) (ft : S8192x2x128.Idx → Elt F .f32) (fi : S16384.Idx → Elt F .i32)
    (hlt : ∀ j, (fi j).toNat < 8192)
    (hin : ∀ x, ((lK r).view.read (Elt F) ((iK L).view.read (Elt F) fi) x).toNat < S8192x2x128.size gathers_S8192x2x128_S128x2x128.axis)
    (x : S128x2x128.Idx) :
    SparseCore.gatherPayload gathers_S8192x2x128_S128x2x128 ((tK).view.read (Elt F) ft)
        (SparseCore.rows (si := S128) ((lK r).view.read (Elt F) ((iK L).view.read (Elt F) fi)) rfl hin) x
      = rowsOf ft fi ((oK L r).view.emb x) := by
  unfold SparseCore.gatherPayload rowsOf
  rw [View.read_apply, cast_eq]
  congr 1
  funext b
  match b with
  | 0 =>
    apply Fin.ext
    rw [tK_val]
    refine (congrArg Fin.val (Shape.Gathers.idx_axis gathers_S8192x2x128_S128x2x128 _ x)).trans ?_
    show ((lK r).view.read (Elt F) ((iK L).view.read (Elt F) fi) (S128.rowMajor.symm (Fin.cast _ (x 0)))).toNat = (fi _).toNat % 8192
    rw [Nat.mod_eq_of_lt (hlt _), View.read_apply, cast_eq, View.read_apply, cast_eq]
    refine congrArg (fun j => (fi j).toNat) ?_
    funext a
    match a with
    | 0 =>
      apply Fin.ext
      rw [iK_val, lK_val]
      have h0 : (S128.rowMajor.symm (Fin.cast (rfl : 128 = S128.numel) (x 0)) 0).val = (x 0).val := by
        rw [← Shape.rowMajor_val_one, Equiv.apply_symm_apply]; rfl
      refine (congrArg (fun n => 1024 * (L 1).val + 512 * (L 0).val + (128 * r.val + n)) h0).trans ?_
      refine Eq.trans ?_ (oK_val L r x 0).symm
      show _ = 1024 * (L 1).val + 512 * (L 0).val + 128 * r.val + (x 0).val
      omega
  | 1 =>
    apply Fin.ext
    rw [tK_val]
    refine (Shape.Gathers.idx_of_ne gathers_S8192x2x128_S128x2x128 _ x 1 (by decide)).trans ?_
    refine Eq.trans ?_ (oK_val L r x 1).symm
    show _ = 0 + (x 1).val
    rw [Nat.zero_add]; rfl
  | 2 =>
    apply Fin.ext
    rw [tK_val]
    refine (Shape.Gathers.idx_of_ne gathers_S8192x2x128_S128x2x128 _ x 2 (by decide)).trans ?_
    refine Eq.trans ?_ (oK_val L r x 2).symm
    show _ = 0 + (x 2).val
    rw [Nat.zero_add]; rfl

end Cert.Kernel.Rows

end
-- ==== Proof.Gather.Res.lean ====
/-
  What a vector subcore owns while it runs the call: its list of row numbers cut into four chunks, its two row buffers,
  its seven transfer semaphores; and what the handshakes hand it: its row numbers, its share of the table, its four
  chunks of the result.
-/
module

public import proofs.«01_k».proof.Proof.Gather.Setup

@[expose] public section

noncomputable section

namespace Cert.Kernel.Rows

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Two, and four, resources at once. -/
theorem sep_fin2 (Φ : Fin 2 → sProp 𝕄) : bigSep Finset.univ Φ = iprop(Φ 0 ∗ Φ 1) := BI.bigSep_fin_two Φ
theorem sep_fin4 (Φ : Fin 4 → sProp 𝕄) : bigSep Finset.univ Φ = iprop(Φ 0 ∗ Φ 1 ∗ Φ 2 ∗ Φ 3) := by
  have h : (Finset.univ : Finset (Fin 4)) = {0, 1, 2, 3} := by decide
  rw [h, BI.bigSep_insert (by decide), BI.bigSep_insert (by decide), BI.bigSep_insert (by decide), BI.bigSep_singleton]; rfl

/-! ## The chunks of the list, the two slots -/

theorem ldiv : 4 ∣ S512.size 0 := ⟨128, rfl⟩
theorem bdiv : 2 ∣ S2x128x2x128.size 0 := ⟨1, rfl⟩
abbrev lPart (r : Fin 4) : Finset S512.Idx := (Rect.part (s := S512) (a₀ := 0) ldiv r).set
abbrev bPart (j : Fin 2) : Finset S2x128x2x128.Idx := (Rect.part (s := S2x128x2x128) (a₀ := 0) bdiv j).set

theorem lK_set (r : Fin 4) : (lK r).view.set = lPart r := by
  have e : Rect.unit (s := S512) ![128 * r.val] S128.size (lst_inb r) = Rect.part (s := S512) (a₀ := 0) ldiv r := by
    unfold Rect.part Rect.block
    congr 1 <;> funext a
    · match a with
      | 0 => simp [Shape.partIx, Shape.partSize]; omega
    · match a with
      | 0 => simp [Shape.partSize]
  show ((View.whole (cc0_scratch0 : Ref sig .scVector)).slice (Rect.unit (s := S512) ![128 * r.val] S128.size (lst_inb r))).set = _
  rw [View.set_slice]
  exact Finset.map_refl.trans (congrArg (fun ρ : Rect S512 => ρ.set) e)

theorem bK_set (j : Fin 2) : (bK j).view.set = bPart j := by
  have e : Rect.unit (s := S2x128x2x128) ![j.val, 0, 0, 0] S1x128x2x128.size (slot_inb j) = Rect.part (s := S2x128x2x128) (a₀ := 0) bdiv j := by
    unfold Rect.part Rect.block
    congr 1 <;> funext a
    · match a with
      | 0 => simp [Shape.partIx, Shape.partSize]
      | 1 => simp [Shape.partIx, Shape.partSize]
      | 2 => simp [Shape.partIx, Shape.partSize]
      | 3 => simp [Shape.partIx, Shape.partSize]
    · match a with
      | 0 => simp [Shape.partSize]
      | 1 => simp [Shape.partSize]
      | 2 => simp [Shape.partSize]
      | 3 => simp [Shape.partSize]
  show (((View.whole (cc0_scratch1 : Ref sig .scVector)).slice (Rect.unit (s := S2x128x2x128) ![j.val, 0, 0, 0] S1x128x2x128.size (slot_inb j))).reshape
    S128x2x128 squeezes_S1x128x2x128_S128x2x128.numel_eq).set = _
  rw [View.set_reshape, View.set_slice]
  exact Finset.map_refl.trans (congrArg (fun ρ : Rect S2x128x2x128 => ρ.set) e)

theorem tK_set : (tK).view.set = Finset.univ := by
  refine Finset.eq_univ_of_forall fun i => ?_
  have h : (tK).view.emb i = i := funext fun b => Fin.ext (tK_val i b)
  have := (tK).view.emb_mem_set i
  rwa [h] at this

section Thread

variable (d : Dev nD) (L : grid0.Coords)

abbrev thr : Thread nD τ := V d (cV L) (sV L)

/-- The list of row numbers held whole is its four chunks held. -/
theorem list_split (f : Buf (Elt F) ((nV).view.loc (thr d L))) :
    ((nV).view.loc (thr d L) ↦{fullShare} f : sProp 𝕄)
      = iprop(((lK 0).view.loc (thr d L) ↦[(lK 0).view.set]{fullShare} f) ∗ ((lK 1).view.loc (thr d L) ↦[(lK 1).view.set]{fullShare} f)
        ∗ ((lK 2).view.loc (thr d L) ↦[(lK 2).view.set]{fullShare} f) ∗ ((lK 3).view.loc (thr d L) ↦[(lK 3).view.set]{fullShare} f)) := by
  have h := pointsTo_biUnion (nD := nD) (Ix := HIx 1) (Name := ℕ) (U := UU) (Lvl := ℕ) (q := fullShare) (f := f) (ℓ := (nV).view.loc (thr d L))
    (Finset.univ : Finset (Fin 4)) lPart (fun a _ b _ hab => Rect.part_disjoint ldiv hab)
  rw [Rect.biUnion_part ldiv, sep_fin4] at h
  rw [lK_set, lK_set, lK_set, lK_set]; exact h

/-- The row buffers held whole are the two slots held. -/
theorem slots_split (f : Buf (Elt F) ((rV).view.loc (thr d L))) :
    ((rV).view.loc (thr d L) ↦{fullShare} f : sProp 𝕄)
      = iprop(((bK 0).view.loc (thr d L) ↦[(bK 0).view.set]{fullShare} f) ∗ ((bK 1).view.loc (thr d L) ↦[(bK 1).view.set]{fullShare} f)) := by
  have h := pointsTo_biUnion (nD := nD) (Ix := HIx 1) (Name := ℕ) (U := UU) (Lvl := ℕ) (q := fullShare) (f := f) (ℓ := (rV).view.loc (thr d L))
    (Finset.univ : Finset (Fin 2)) bPart (fun a _ b _ hab => Rect.part_disjoint bdiv hab)
  rw [Rect.biUnion_part bdiv, sep_fin2] at h
  rw [bK_set, bK_set]; exact h

/-- The two slots held, at whatever contents, are the row buffers held at some contents. -/
theorem slots_join (f g : Buf (Elt F) ((rV).view.loc (thr d L))) :
    iprop(((bK 0).view.loc (thr d L) ↦[(bK 0).view.set]{fullShare} f) ∗ ((bK 1).view.loc (thr d L) ↦[(bK 1).view.set]{fullShare} g))
      ⊢ (iprop(∃ h, (rV).view.loc (thr d L) ↦{fullShare} h) : sProp 𝕄) := by
  have h := pointsTo_biUnion_join (nD := nD) (Ix := HIx 1) (Name := ℕ) (U := UU) (Lvl := ℕ) (q := fullShare) (ℓ := (rV).view.loc (thr d L))
    (Finset.univ : Finset (Fin 2)) bPart ![f, g] f (fun a _ b _ hab => Rect.part_disjoint bdiv hab)
  rw [Rect.biUnion_part bdiv, sep_fin2] at h
  rw [bK_set, bK_set]
  have h' : iprop(((bK 0).view.loc (thr d L) ↦[bPart 0]{fullShare} f) ∗ ((bK 1).view.loc (thr d L) ↦[bPart 1]{fullShare} g))
      ⊢ (iprop(∃ k, ⌜∀ t ∈ Finset.univ, ∀ i ∈ bPart t, k i = (![f, g] : Fin 2 → Buf (Elt F) ((rV).view.loc (thr d L))) t i⌝
          ∗ (rV).view.loc (thr d L) ↦{fullShare} k) : sProp 𝕄) := h
  iintro H
  ihave H' := h' $$ H
  icases H' with ⟨%k, -, Hk⟩
  iexists k; iexact Hk

/-- The table held whole, at a share, is held as the subcore addresses it, at the share's two halves. -/
theorem table_split (q : PosShare TreeShare) (f : Buf (Elt F) (tLoc d)) :
    (tLoc d ↦{q} f : sProp 𝕄)
      = iprop(((tK).view.loc (thr d L) ↦[(tK).view.set]{q.left} f) ∗ ((tK).view.loc (thr d L) ↦[(tK).view.set]{q.right} f)) := by
  rw [tK_set]
  exact BI.Entails.antisymm (pointsTo_share (PosShare.mem_left_op_right q)).1 (pointsTo_share (PosShare.mem_left_op_right q)).2

theorem pts_i (f : Buf (Elt F) (iLoc d)) :
    (iLoc d ↦[iPart (cL L) (sL L)]{fullShare} f : sProp 𝕄) = (iK L).view.loc (thr d L) ↦[(iK L).view.set]{fullShare} f := by
  rw [iK_set]
theorem pts_o (r : Fin 4) (f : Buf (Elt F) (oLoc d)) :
    (oLoc d ↦[oPart (cL L) (sL L) r]{fullShare} f : sProp 𝕄) = (oK L r).view.loc (thr d L) ↦[(oK L r).view.set]{fullShare} f := by
  rw [oK_set]

/-! ## The semaphores and the buffers among the subcore's own -/

/-- The semaphore of slot 0, and of slot 1. -/
abbrev gSem0 : DmaSems sig S_ := (cc0_scratch2.slice (Rect.unit (s := S2) ![0] S1.size inb_S2_S1_0)).squeeze S_ squeezes_S1_S_
abbrev gSem1 : DmaSems sig S_ := (cc0_scratch2.slice (Rect.unit (s := S2) ![1] S1.size inb_S2_S1_1)).squeeze S_ squeezes_S1_S_

/-- The seven semaphores the subcore's transfers use. -/
def semSet : Finset (SemLoc sig) :=
  {.dma gSem0.sem, .dma gSem1.sem, .dma cc0_scoped0.sem, .dma cc0_scoped1.sem, .dma cc0_scoped2.sem, .dma cc0_scoped3.sem, .dma cc0_scoped4.sem}

theorem semSet_scoped : ∀ s ∈ semSet, (s : SemLoc sig).isScoped .scVector = true := by decide

/-- The semaphores of `semSet`, as `d`'s subcore `L` holds them. -/
def cellSet : Finset (GSem nD τ sig) := semSet.map ⟨fun s => (thr d L, s), fun _ _ h => (Prod.mk.inj h).2⟩

theorem cellSet_subset : cellSet d L ⊆ ownCells (thr d L) := by
  intro g hg
  obtain ⟨s, hs, rfl⟩ := Finset.mem_map.1 hg
  exact mem_ownCells.2 ⟨rfl, semSet_scoped s hs⟩

theorem ownSems0_eq :
    (ownSems0 (thr d L) : sProp 𝕄)
      = iprop((semVal (thr d L, .dma gSem0.sem) 0 ∗ semVal (thr d L, .dma gSem1.sem) 0 ∗ semVal (thr d L, .dma cc0_scoped0.sem) 0
          ∗ semVal (thr d L, .dma cc0_scoped1.sem) 0 ∗ semVal (thr d L, .dma cc0_scoped2.sem) 0 ∗ semVal (thr d L, .dma cc0_scoped3.sem) 0
          ∗ semVal (thr d L, .dma cc0_scoped4.sem) 0)
        ∗ bigSep (ownCells (thr d L) \ cellSet d L) fun g => semVal g 0) := by
  unfold SparseCore.Cfg.ownSems0
  rw [SparseCore.bigSep_sdiff_split' (cellSet_subset d L)]
  congr 1
  unfold cellSet semSet
  rw [BI.bigSep_map, BI.bigSep_insert (by decide), BI.bigSep_insert (by decide), BI.bigSep_insert (by decide), BI.bigSep_insert (by decide),
    BI.bigSep_insert (by decide), BI.bigSep_insert (by decide), BI.bigSep_singleton]
  rfl

/-- The list and the row buffers are among the subcore's own buffers. -/
theorem ownBufs_eq :
    (ownBufs (thr d L) : sProp 𝕄)
      = iprop((∃ f, (nV).view.loc (thr d L) ↦{fullShare} f) ∗ (∃ f, (rV).view.loc (thr d L) ↦{fullShare} f)
          ∗ bigSep (((ownRefs (τ := τ) (.scVector (cV L) (sV L))).erase ((Proc.scVector (cV L) (sV L)).devRef cc0_scratch0)).erase
              ((Proc.scVector (cV L) (sV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

end Thread

end Cert.Kernel.Rows

end
-- ==== Proof.Gather.Tile.lean ====
/-
  One vector subcore's run of the call: the fetch of its row numbers, four gathers of 128 rows of the table through two
  slots, each chunk copied out to its place in the result. It ends with its part of the result at the rows its numbers
  name, everything it was lent returned, and its semaphores at zero.
-/
module

public import proofs.«01_k».proof.Proof.Gather.Res

@[expose] public section

noncomputable section

namespace Cert.Kernel.Rows

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

/-- What a subcore is lent: its row numbers, its share of the table, its four chunks of the result at contents `fo`. -/
abbrev lent (c : Fin 2) (s : Fin 16) (ft : Buf (Elt F) (tLoc d)) (fi : Buf (Elt F) (iLoc d)) (fo : Buf (Elt F) (oLoc d)) : sProp 𝕄 :=
  iprop((iLoc d ↦[iPart c s]{fullShare} fi) ∗ (tLoc d ↦{tileQ c s} ft)
    ∗ (oLoc d ↦[oPart c s 0]{fullShare} fo) ∗ (oLoc d ↦[oPart c s 1]{fullShare} fo)
    ∗ (oLoc d ↦[oPart c s 2]{fullShare} fo) ∗ (oLoc d ↦[oPart c s 3]{fullShare} fo))

/-- The rows of chunk `r`, as the call means them. -/
def chunk (r : Fin 4) (ft : Buf (Elt F) (tLoc d)) (fi : Buf (Elt F) (iLoc d)) : S128x2x128.Idx → Elt F .f32 :=
  fun x => rowsOf ft fi ((oK L r).view.emb x)

theorem credit_eq (j : Fin 2) : ∑ k, ((bK j).slice (S128x2x128.rowRect gathers_S8192x2x128_S128x2x128.axis' k)
    (S128x2x128.stride_rowRect gathers_S8192x2x128_S128x2x128.axis' k)).view.dmaCredit = (bK j).view.dmaCredit :=
  SparseCore.sum_rowCredit_eq_dmaCredit (bK j) _ (fun _ => rfl)

/-- The list as the fetch leaves it. -/
abbrev nums (fi : Buf (Elt F) (iLoc d)) : Buf (Elt F) ((nV).view.loc (thr d L)) := (iK L).view.read (Elt F) fi

/-- A slot once the gather of chunk `r` is in it. -/
abbrev filled (r : Fin 4) (j : Fin 2) (ft : Buf (Elt F) (tLoc d)) (fi : Buf (Elt F) (iLoc d)) (fd : Buf (Elt F) ((rV).view.loc (thr d L))) :
    Buf (Elt F) ((bK j).view.loc (thr d L)) := (bK j).view.write (Elt F) fd (chunk d L r ft fi) Finset.univ

/-- The start of the gather of chunk `r` into slot `j`, the list's chunk and the slot under whatever names the program
    has for them: what it delivers at its wait is the slot filled with the rows the call means, and the table's share and
    the list's chunk back. -/
theorem issue (r : Fin 4) (j : Fin 2) (q : PosShare TreeShare) (sem : DmaSem sig) (ft : Buf (Elt F) (tLoc d)) (fi : Buf (Elt F) (iLoc d))
    (fd : Buf (Elt F) ((rV).view.loc (thr d L))) (hlt : ∀ j, (fi j : BitVec 32).toNat < 8192) {α : Type}
    {lst : Memref sig .scVector .vmem S128 .i32} {slot : Memref sig .scVector .vmem S128x2x128 .f32} {hn : S128.numel = S128x2x128.size gathers_S8192x2x128_S128x2x128.axis'}
    (hl : lst = lK r) (hb : slot = bK j)
    {k : PUnit → Prog (TpuEff nD τ sig (Elt F) Λ₀ (.scVector (cV L) (sV L))) α} {Q : α → sProp 𝕄} :
    iprop(((tK).view.loc (thr d L) ↦[(tK).view.set]{q} ft) ∗ ((bK j).view.loc (thr d L) ↦[(bK j).view.set]{fullShare} fd)
        ∗ ((lK r).view.loc (thr d L) ↦[(lK r).view.set]{fullShare} nums d L fi) ∗ semVal (thr d L, SemLoc.dma sem) 0)
      ⊢ iprop((Transfers.Flight countersEmb (thr d L) (.dma sem) (default : HIx 1) (bK j).view.dmaCredit
              iprop(((bK j).view.loc (thr d L) ↦[(bK j).view.set]{fullShare} filled d L r j ft fi fd)
                ∗ ((tK).view.loc (thr d L) ↦[(tK).view.set]{q} ft) ∗ ((lK r).view.loc (thr d L) ↦[(lK r).view.set]{fullShare} nums d L fi))
            -∗ wp frame (wpE (defs₀ (F := F)) 𝒱₀ (thr d L) none) Set.univ (k ⟨⟩) Q)
          -∗ wp frame (wpE (defs₀ (F := F)) 𝒱₀ (thr d L) none) Set.univ
              (SparseCore.enqueueIndirectGather rfl tK slot gathers_S8192x2x128_S128x2x128 lst hn sem (View.wordExact_bits rfl) rfl (Or.inl rfl) >>= k) Q) := by
  subst hl hb
  have hin := list_inb L r fi hlt
  have e : SparseCore.gatherPayload gathers_S8192x2x128_S128x2x128 ((tK).view.read (Elt F) ft)
      (SparseCore.rows (si := S128) ((lK r).view.read (Elt F) ((iK L).view.read (Elt F) fi)) rfl hin) = chunk d L r ft fi :=
    funext fun x => payload_eq L r ft fi hlt hin x
  have h := SparseCore.wp_indirectGatherLocal (defs := defs₀ (F := F)) (k := k) (Q := Q) countersEmb 𝒱₀ (thr d L) none (hg := gathers_S8192x2x128_S128x2x128)
    (src := tK) (dst := bK j) (offs := lK r) (hn := rfl) (sem := sem) (hp := rfl) (hsrc := View.wordExact_bits rfl) (he := rfl) (hsp := Or.inl rfl) (hr := by decide)
    (q := q) (qo := fullShare) (fs := ft) (fd := fd) (fo := nums d L fi) (default : HIx 1)
    (bK j).view.dmaCredit (credit_eq j) (by decide) hin
  rw [e] at h
  exact h

/-- A chunk of the result once its slot is copied out holds the rows the call means. -/
theorem landed (r : Fin 4) (j : Fin 2) (ft : Buf (Elt F) (tLoc d)) (fi : Buf (Elt F) (iLoc d)) (fd : Buf (Elt F) ((rV).view.loc (thr d L)))
    (fo : Buf (Elt F) (oLoc d)) (pay : S128x2x128.Idx → Elt F .f32) (hpay : pay = (bK j).view.read (Elt F) (filled d L r j ft fi fd)) :
    ((oK L r).view.loc (thr d L) ↦[(oK L r).view.set]{fullShare}
        (oK L r).view.writes (Elt F) fo [⟨Rect.whole S128x2x128, pay⟩] : sProp 𝕄)
      = oLoc d ↦[oPart (cL L) (sL L) r]{fullShare} rowsOf ft fi := by
  rw [pts_o, hpay]
  refine pointsTo_congr fun i hi => ?_
  obtain ⟨x, -, rfl⟩ := Finset.mem_map.1 hi
  have hx : ((oK L r).view.slice (Rect.whole S128x2x128)).emb x = (oK L r).view.emb x := by
    show (oK L r).view.emb ((Rect.whole S128x2x128).emb x) = _
    congr 1
    funext a
    exact Fin.ext ((Rect.emb_apply _ _ _).trans (by show 0 + 1 * (x a).val = _; omega))
  rw [View.writes_singleton, View.read_write_univ, ← hx, View.write_emb, if_pos (Finset.mem_univ _), hx]
  rfl

set_option maxHeartbeats 1000000 in
set_option maxRecDepth 16384 in
theorem tile_body (hF : (K (F := F)).Facts) (ft : Buf (Elt F) (tLoc d)) (fi : Buf (Elt F) (iLoc d)) (fo : Buf (Elt F) (oLoc d))
    (hlt : ∀ j, (fi j : BitVec 32).toNat < 8192) (O : CellTallies nD τ sig (HIx 1)) (W : Waits sig (HIx 1)) (hO : ∀ g, O g none = 0) :
    iprop(levAts (K (F := F)).L (K (F := F)).lev ∗ emp ∗ lent d (cL L) (sL L) ft fi fo
        ∗ scopedBufs (thr d L) ∗ scopedSems0 (thr d L) ∗ owes (thr d L) O W)
      ⊢ wp frame (wpE (defs₀ (F := F)) 𝒱₀ (thr d L) none) Set.univ
          (cc0__gather_body L tV (Memref.isWhole_whole _) iV (Memref.isWhole_whole _) oV (Memref.isWhole_whole _)
            nV (Memref.isWhole_whole _) rV (Memref.isWhole_whole _) cc0_scratch2 cc0_scoped0 cc0_scoped1 cc0_scoped2 cc0_scoped3 cc0_scoped4)
          fun _ => iprop(lent d (cL L) (sL L) ft fi (rowsOf ft fi)
            ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (sV L), SparseCore.Cfg.scopedSems0_V (Val := Elt F) d (cV L) (sV L), ownSems0_eq, ownBufs_eq]
  unfold lent
  rw [pts_i, table_split d L, pts_o, pts_o, pts_o, pts_o]
  iintro ⟨#Hlv, -, ⟨Hi, ⟨Htl, Htr⟩, Ho0, Ho1, Ho2, Ho3⟩, ⟨⟨%fs, Hs⟩, ⟨%fr, Hr⟩, Hbufs⟩, ⟨⟨Hg0, Hg1, Hc0, Hc1, Hc2, Hc3, Hc4⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hr' := (Entails.of_eq (slots_split (F := F) d L fr)) $$ Hr
  icases Hr' with ⟨Hb0, Hb1⟩
  sl_exec
  -- the list at the row numbers, in its four chunks
  ihave Hs' := (Entails.of_eq (show ((nV).view.loc (thr d L) ↦{fullShare} View.write (Elt F) (nV).view fs (tile_body.sl.dma0 d L fi) Finset.univ : sProp 𝕄)
      = (nV).view.loc (thr d L) ↦{fullShare} nums d L fi by rw [View.write_whole_univ]; rfl)) $$ Hs
  ihave Hs2 := (Entails.of_eq (list_split (F := F) d L (nums d L fi))) $$ Hs'
  icases Hs2 with ⟨Hl0, Hl1, Hl2, Hl3⟩
  -- chunk 0 into slot 0, chunk 1 into slot 1
  iapply (issue d L 0 0 (tileQ (cL L) (sL L)).left gSem0.sem ft fi fr hlt rfl rfl) $$ [Htl Hb0 Hl0 Hg0]
  · isplitl [Htl]; · iexact Htl
    isplitl [Hb0]; · iexact Hb0
    isplitl [Hl0]; · iexact Hl0
    iexact Hg0
  iintro Hf0
  sl_exec
  iapply (issue d L 1 1 (tileQ (cL L) (sL L)).right gSem1.sem ft fi fr hlt rfl rfl) $$ [Htr Hb1 Hl1 Hg1]
  · isplitl [Htr]; · iexact Htr
    isplitl [Hb1]; · iexact Hb1
    isplitl [Hl1]; · iexact Hl1
    iexact Hg1
  iintro Hf1
  sl_exec
  iapply (Transfers.wp_waitLocalO countersEmb 𝒱₀ (thr d L) none (default : HIx 1) (rfl : (bK 0).view.dmaCredit = _)) $$ [Hf0 HO]
  · isplitl [Hf0]; · iexact Hf0
    isplitl [HO]; · iexact HO
    iapply (Transfers.MayWaits.elim (SemLoc.dma gSem0.sem)) $$ Hmw
  iintro ⟨⟨Hb0, Htl, Hl0⟩, Hg0, HO⟩
  sl_exec
  -- chunk 2 into slot 0
  iapply (issue d L 2 0 (tileQ (cL L) (sL L)).left gSem0.sem ft fi (filled d L 0 0 ft fi fr) hlt rfl rfl) $$ [Htl Hb0 Hl2 Hg0]
  · isplitl [Htl]; · iexact Htl
    isplitl [Hb0]; · iexact Hb0
    isplitl [Hl2]; · iexact Hl2
    iexact Hg0
  iintro Hf0
  sl_exec
  iapply (Transfers.wp_waitLocalO countersEmb 𝒱₀ (thr d L) none (default : HIx 1) (rfl : (bK 1).view.dmaCredit = _)) $$ [Hf1 HO]
  · isplitl [Hf1]; · iexact Hf1
    isplitl [HO]; · iexact HO
    iapply (Transfers.MayWaits.elim (SemLoc.dma gSem1.sem)) $$ Hmw
  iintro ⟨⟨Hb1, Htr, Hl1⟩, Hg1, HO⟩
  sl_exec
  -- chunk 3 into slot 1
  iapply (issue d L 3 1 (tileQ (cL L) (sL L)).right gSem1.sem ft fi (filled d L 1 1 ft fi fr) hlt rfl rfl) $$ [Htr Hb1 Hl3 Hg1]
  · isplitl [Htr]; · iexact Htr
    isplitl [Hb1]; · iexact Hb1
    isplitl [Hl3]; · iexact Hl3
    iexact Hg1
  iintro Hf1
  sl_exec
  iapply (Transfers.wp_waitLocalO countersEmb 𝒱₀ (thr d L) none (default : HIx 1) (rfl : (bK 0).view.dmaCredit = _)) $$ [Hf0 HO]
  · isplitl [Hf0]; · iexact Hf0
    isplitl [HO]; · iexact HO
    iapply (Transfers.MayWaits.elim (SemLoc.dma gSem0.sem)) $$ Hmw
  iintro ⟨⟨Hb0, Htl, Hl2⟩, Hg0, HO⟩
  sl_exec
  iapply (Transfers.wp_waitLocalO countersEmb 𝒱₀ (thr d L) none (default : HIx 1) (rfl : (bK 1).view.dmaCredit = _)) $$ [Hf1 HO]
  · isplitl [Hf1]; · iexact Hf1
    isplitl [HO]; · iexact HO
    iapply (Transfers.MayWaits.elim (SemLoc.dma gSem1.sem)) $$ Hmw
  iintro ⟨⟨Hb1, Htr, Hl3⟩, Hg1, HO⟩
  sl_exec
  sl_step
  isplitl [Hi Htl Htr Ho0 Ho1 Ho2 Ho3]
  · isplitl [Hi]; · iexact Hi
    isplitl [Htl Htr]; · isplitl [Htl] <;> iassumption
    isplitl [Ho0]; · iapply (Entails.of_eq (landed (F := F) d L 0 0 ft fi fr fo _ rfl)); iexact Ho0
    isplitl [Ho1]; · iapply (Entails.of_eq (landed (F := F) d L 1 1 ft fi fr fo _ rfl)); iexact Ho1
    isplitl [Ho2]; · iapply (Entails.of_eq (landed (F := F) d L 2 0 ft fi (filled d L 0 0 ft fi fr) fo _ rfl)); iexact Ho2
    iapply (Entails.of_eq (landed (F := F) d L 3 1 ft fi (filled d L 1 1 ft fi fr) fo _ rfl)); iexact Ho3
  isplitl [Hl0 Hl1 Hl2 Hl3 Hb0 Hb1 Hbufs]
  · isplitl [Hl0 Hl1 Hl2 Hl3]
    · iexists nums d L fi
      iapply (Entails.of_eq (list_split (F := F) d L (nums d L fi)).symm)
      isplitl [Hl0]; · iexact Hl0
      isplitl [Hl1]; · iexact Hl1
      isplitl [Hl2]; · iexact Hl2
      iexact Hl3
    isplitl [Hb0 Hb1]
    · iapply (slots_join (F := F) d L (filled d L 2 0 ft fi (filled d L 0 0 ft fi fr)) (filled d L 3 1 ft fi (filled d L 1 1 ft fi fr)))
      isplitl [Hb0]; · iexact Hb0
      iexact Hb1
    iexact Hbufs
  isplitl [Hg0 Hg1 Hc0 Hc1 Hc2 Hc3 Hc4 Hsems]
  · isplitl [Hg0 Hg1 Hc0 Hc1 Hc2 Hc3 Hc4]
    · isplitl [Hg0]; · iexact Hg0
      isplitl [Hg1]; · iexact Hg1
      isplitl [Hc0]; · iexact Hc0
      isplitl [Hc1]; · iexact Hc1
      isplitl [Hc2]; · iexact Hc2
      isplitl [Hc3]; · iexact Hc3
      iexact Hc4
    iexact Hsems
  iexists _; isplitr
  swap; · iexact HO
  ipureintro; intro p hp
  simp only [Finset.mem_insert] at hp
  rcases hp with hp | hp | hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inl hp

end Tile

end Cert.Kernel.Rows

end
-- ==== Proof.Gather.Launch.lean ====
/-
  The call's launch: what the handshakes carry, each subcore's obligation, and the split of the table, the row numbers
  and the result between the thirty-two subcores.
-/
module

public import proofs.«01_k».proof.Proof.Gather.Tile

@[expose] public section

noncomputable section

namespace Cert.Kernel.Rows

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The split between the subcores -/

theorem wid_inj {c c' : Fin 2} {s s' : Fin 16} (h : wid c s = wid c' s') : c = c' ∧ s = s' := by
  have := congrArg Fin.val h
  simp only [wid] at this
  exact ⟨Fin.ext (by omega), Fin.ext (by omega)⟩

theorem cid_inj {c c' : Fin 2} {s s' : Fin 16} {r r' : Fin 4} (h : cid c s r = cid c' s' r') : c = c' ∧ s = s' ∧ r = r' := by
  have := congrArg Fin.val h
  simp only [cid] at this
  exact ⟨Fin.ext (by omega), Fin.ext (by omega), Fin.ext (by omega)⟩

theorem wid_surj (w : Fin 32) : ∃ c s, wid c s = w :=
  ⟨⟨w.val % 2, by omega⟩, ⟨w.val / 2, by omega⟩, Fin.ext (by simp only [wid]; omega)⟩

theorem cid_surj (w : Fin 128) : ∃ c s r, cid c s r = w :=
  ⟨⟨w.val / 4 % 2, by omega⟩, ⟨w.val / 8, by omega⟩, ⟨w.val % 4, by omega⟩, Fin.ext (by simp only [cid]; omega)⟩

/-- The row numbers held whole are held piece by piece, one piece per subcore. -/
theorem nums_split (d : Dev nD) (f : Buf (Elt F) (iLoc d)) :
    (iLoc d ↦{fullShare} f : sProp 𝕄) = bigSep Finset.univ fun c : Fin 2 => bigSep Finset.univ fun s : Fin 16 => iLoc d ↦[iPart c s]{fullShare} f := by
  have h := pointsTo_biUnion (nD := nD) (Ix := HIx 1) (Name := ℕ) (U := UU) (Lvl := ℕ) (q := fullShare) (f := f) (ℓ := iLoc d)
    (Finset.univ : Finset (Fin 2 × Fin 16)) (fun p => iPart p.1 p.2)
    (fun a _ b _ hab => Rect.part_disjoint idiv fun e => hab (Prod.ext (wid_inj e).1 (wid_inj e).2))
  have hu : (Finset.univ : Finset (Fin 2 × Fin 16)).biUnion (fun p => iPart p.1 p.2) = Finset.univ := by
    refine Finset.eq_univ_of_forall fun i => ?_
    obtain ⟨w, -, hw⟩ := Finset.mem_biUnion.1 ((Rect.biUnion_part (s := S16384) (a₀ := 0) idiv) ▸ Finset.mem_univ i)
    obtain ⟨c, s, rfl⟩ := wid_surj w
    exact Finset.mem_biUnion.2 ⟨(c, s), Finset.mem_univ _, hw⟩
  rw [hu, bigSep_univ_prod] at h
  exact h

/-- The result held whole is held chunk by chunk, four chunks per subcore. -/
theorem rows_split (d : Dev nD) (f : Buf (Elt F) (oLoc d)) :
    (oLoc d ↦{fullShare} f : sProp 𝕄) = bigSep Finset.univ fun c : Fin 2 => bigSep Finset.univ fun s : Fin 16 =>
      iprop((oLoc d ↦[oPart c s 0]{fullShare} f) ∗ (oLoc d ↦[oPart c s 1]{fullShare} f)
        ∗ (oLoc d ↦[oPart c s 2]{fullShare} f) ∗ (oLoc d ↦[oPart c s 3]{fullShare} f)) := by
  have h := pointsTo_biUnion (nD := nD) (Ix := HIx 1) (Name := ℕ) (U := UU) (Lvl := ℕ) (q := fullShare) (f := f) (ℓ := oLoc d)
    (Finset.univ : Finset (Fin 2 × Fin 16 × Fin 4)) (fun p => oPart p.1 p.2.1 p.2.2)
    (fun a _ b _ hab => Rect.part_disjoint odiv fun e => hab (Prod.ext (cid_inj e).1 (Prod.ext (cid_inj e).2.1 (cid_inj e).2.2)))
  have hu : (Finset.univ : Finset (Fin 2 × Fin 16 × Fin 4)).biUnion (fun p => oPart p.1 p.2.1 p.2.2) = Finset.univ := by
    refine Finset.eq_univ_of_forall fun i => ?_
    obtain ⟨w, -, hw⟩ := Finset.mem_biUnion.1 ((Rect.biUnion_part (s := S16384x2x128) (a₀ := 0) odiv) ▸ Finset.mem_univ i)
    obtain ⟨c, s, r, rfl⟩ := cid_surj w
    exact Finset.mem_biUnion.2 ⟨(c, s, r), Finset.mem_univ _, hw⟩
  rw [hu, bigSep_univ_prod] at h
  refine h.trans (bigSep_congr fun c _ => ?_)
  rw [bigSep_univ_prod]
  exact bigSep_congr fun s _ => sep_fin4 _

/-- The table held whole is held by every subcore at its share. -/
theorem table_shares (d : Dev nD) (f : Buf (Elt F) (tLoc d)) :
    (tLoc d ↦{fullShare} f : sProp 𝕄) = bigSep Finset.univ fun c : Fin 2 => bigSep Finset.univ fun s : Fin 16 => tLoc d ↦{tileQ c s} f :=
  (pointsTo_piecesOf Finset.univ f (by decide) fullShare).trans
    (bigSep_congr fun c _ => pointsTo_piecesOf Finset.univ f (by decide) (coreQ c))

variable [FloatOps F]

/-- The three arrays held whole are what the subcores are lent, all together. -/
theorem lent_all (d : Dev nD) (ft : Buf (Elt F) (tLoc d)) (fi : Buf (Elt F) (iLoc d)) (fo : Buf (Elt F) (oLoc d)) :
    (bigSep Finset.univ fun c : Fin 2 => bigSep Finset.univ fun s : Fin 16 => lent d c s ft fi fo)
      = (iprop((iLoc d ↦{fullShare} fi) ∗ (tLoc d ↦{fullShare} ft) ∗ oLoc d ↦{fullShare} fo) : sProp 𝕄) := by
  rw [nums_split, table_shares, rows_split, ← BI.bigSep_sep', ← BI.bigSep_sep']
  refine bigSep_congr fun c _ => ?_
  rw [← BI.bigSep_sep', ← BI.bigSep_sep']

/-! ## What the handshakes carry -/

section Pay

variable (ft : (d : Dev nD) → Buf (Elt F) (tLoc d)) (fi : (d : Dev nD) → Buf (Elt F) (iLoc d)) (fo : (d : Dev nD) → Buf (Elt F) (oLoc d))

/-- A SparseCore takes what its sixteen subcores are lent, and brings it back with the rows written; a subcore its own. -/
def P : (K (F := F)).Pay (nD := nD) (Val := Elt F) (Name := ℕ) (U := UU) where
  st := fun q d c => match q with
    | 0 => bigSep Finset.univ fun s : Fin 16 => lent d (Fin.cast cores_eq c) s (ft d) (fi d) (fo d)
  dn := fun q d c => match q with
    | 0 => bigSep Finset.univ fun s : Fin 16 => lent d (Fin.cast cores_eq c) s (ft d) (fi d) (rowsOf (ft d) (fi d))
  go := fun q d c i => match q with
    | 0 => lent d (Fin.cast cores_eq c) (Fin.cast subs_eq i) (ft d) (fi d) (fo d)
  td := fun q d c i => match q with
    | 0 => lent d (Fin.cast cores_eq c) (Fin.cast subs_eq i) (ft d) (fi d) (rowsOf (ft d) (fi d))
  x := fun _ _ => iprop(emp)

instance P_storable : (P (F := F) ft fi fo).IsStorable where
  st q d c := match q with
    | 0 => (inferInstance : BI.Storable (upEmb : UEmb _ 𝕄) (bigSep Finset.univ fun s : Fin 16 => lent d (Fin.cast cores_eq c) s (ft d) (fi d) (fo d)))
  dn q d c := match q with
    | 0 => (inferInstance : BI.Storable (upEmb : UEmb _ 𝕄) (bigSep Finset.univ fun s : Fin 16 => lent d (Fin.cast cores_eq c) s (ft d) (fi d) (rowsOf (ft d) (fi d))))
  go q d c i := match q with
    | 0 => (inferInstance : BI.Storable (upEmb : UEmb _ 𝕄) (lent d (Fin.cast cores_eq c) (Fin.cast subs_eq i) (ft d) (fi d) (fo d)))
  td q d c i := match q with
    | 0 => (inferInstance : BI.Storable (upEmb : UEmb _ 𝕄) (lent d (Fin.cast cores_eq c) (Fin.cast subs_eq i) (ft d) (fi d) (rowsOf (ft d) (fi d))))

/-! ## The obligations -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem defs_vector (c : Fin τ.nSC) (s : Fin τ.nSub) :
    defs₀ (F := F) (.scVector c s) 0 ()
      = SparseCore.onTile hcore0 hsub0 (fun c s => cc0__gather_body (coords c s)
          tV (Memref.isWhole_whole _) iV (Memref.isWhole_whole _) oV (Memref.isWhole_whole _)
          nV (Memref.isWhole_whole _) rV (Memref.isWhole_whole _) cc0_scratch2 cc0_scoped0 cc0_scoped1 cc0_scoped2 cc0_scoped3 cc0_scoped4) ⟨⟩ c s := rfl

theorem widen {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's run, from what it is lent to the same with its rows written. -/
theorem tileObl (hF : (K (F := F)).Facts) (hlt : ∀ d j, (fi d j : BitVec 32).toNat < 8192) :
    (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector]; simp only [SparseCore.onTile, hci, and_self, ↓reduceDIte]
  exact (tile_body d (coords ⟨_, hci.1⟩ ⟨_, hci.2⟩) hF (ft d) (fi d) (fo d) (hlt d) O W hO).trans (wp_mono frame _ _ fun _ => widen)

theorem over_subs (Φ : Fin 16 → sProp 𝕄) :
    (bigSep Finset.univ fun i : Fin ((K (F := F)).nSub 0) => Φ (Fin.cast subs_eq i)) = bigSep Finset.univ Φ :=
  bigSep_congr fun _ _ => congrArg Φ (Fin.ext rfl)
theorem over_cores (Φ : Fin 2 → sProp 𝕄) :
    (bigSep Finset.univ fun i : Fin ((K (F := F)).nCore 0) => Φ (Fin.cast cores_eq i)) = bigSep Finset.univ Φ :=
  bigSep_congr fun _ _ => congrArg Φ (Fin.ext rfl)

/-- A SparseCore's operands are its subcores', and its subcores' results are its own. -/
theorem vecSplit : (K (F := F)).VecSplit' (P ft fi fo) 0 := by
  intro d c
  show (bigSep Finset.univ fun s : Fin 16 => lent d (Fin.cast cores_eq c) s (ft d) (fi d) (fo d)) ⊢ |={Set.univ}=> iprop(
      (bigSep Finset.univ fun i : Fin ((K (F := F)).nSub 0) => lent d (Fin.cast cores_eq c) (Fin.cast subs_eq i) (ft d) (fi d) (fo d))
      ∗ ((bigSep Finset.univ fun i : Fin ((K (F := F)).nSub 0) => lent d (Fin.cast cores_eq c) (Fin.cast subs_eq i) (ft d) (fi d) (rowsOf (ft d) (fi d)))
          -∗ bigSep Finset.univ fun s : Fin 16 => lent d (Fin.cast cores_eq c) s (ft d) (fi d) (rowsOf (ft d) (fi d))))
  rw [over_subs (F := F) (fun s => lent d (Fin.cast cores_eq c) s (ft d) (fi d) (fo d)),
    over_subs (F := F) (fun s => lent d (Fin.cast cores_eq c) s (ft d) (fi d) (rowsOf (ft d) (fi d)))]
  iintro H; imodintro
  isplitl [H]; · iexact H
  iintro H; iexact H

/-! ## The ghost state at the launch -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P ft fi fo).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun th : Thread nD τ => bigSep Finset.univ fun q : Fin 1 => (P (F := F) ft fi fo).x q th) = bigSep Finset.univ fun _ => iprop(emp) from
    bigSep_congr fun _ _ => bigSep_univ_of_subsingleton (0 : Fin 1), emp_all]
  iempintro

/-- The call's operands, and its results, whole. -/
theorem st_eq (d : Dev nD) : (bigSep Finset.univ fun c : Fin ((K (F := F)).nCore 0) => (P ft fi fo).st 0 d c)
    = (iprop((iLoc d ↦{fullShare} fi d) ∗ (tLoc d ↦{fullShare} ft d) ∗ oLoc d ↦{fullShare} fo d) : sProp 𝕄) :=
  (over_cores (F := F) (fun c => bigSep Finset.univ fun s : Fin 16 => lent d c s (ft d) (fi d) (fo d))).trans (lent_all d _ _ _)
theorem dn_eq (d : Dev nD) : (bigSep Finset.univ fun c : Fin ((K (F := F)).nCore 0) => (P ft fi fo).dn 0 d c)
    = (iprop((iLoc d ↦{fullShare} fi d) ∗ (tLoc d ↦{fullShare} ft d) ∗ oLoc d ↦{fullShare} rowsOf (ft d) (fi d)) : sProp 𝕄) :=
  (over_cores (F := F) (fun c => bigSep Finset.univ fun s : Fin 16 => lent d c s (ft d) (fi d) (rowsOf (ft d) (fi d)))).trans (lent_all d _ _ _)

end Pay

end Cert.Kernel.Rows

end
-- ==== Proof.Gather.Run.lean ====
/-
  The whole program's run: the two reshapes of the arguments, the call, the reshape of its result. It leaves every
  argument as it was, every semaphore at zero, and the result at the table's rows in the order of the row numbers.
-/
module

public import proofs.«01_k».proof.Proof.Gather.Launch

@[expose] public section

noncomputable section

namespace Cert.Kernel.Rows

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The arrays -/

abbrev aLoc (d : Dev nD) : Loc nD τ sig := (SparseCore.T d).loc main_arg0
abbrev wLoc (d : Dev nD) : Loc nD τ sig := (SparseCore.T d).loc main_arg1
abbrev cLoc (d : Dev nD) : Loc nD τ sig := (SparseCore.T d).loc main_arg2
abbrev zLoc (d : Dev nD) : Loc nD τ sig := (SparseCore.T d).loc main_v3

/-- The table as the call reads it: each row of 256 numbers as two of 128. -/
def tab (d : Dev nD) : Buf (Elt F) (tLoc d) := shapeCast S8192x2x128 (m (wLoc d)) shapeCasts_S8192x256_S8192x2x128
/-- The row numbers as the call reads them: one list. -/
def num (d : Dev nD) : Buf (Elt F) (iLoc d) := shapeCast S16384 (m (cLoc d)) shapeCasts_S16x1024_S16384
/-- The result: the rows written, in the arguments' shape. -/
def rows (d : Dev nD) : Buf (Elt F) (zLoc d) := shapeCast S16x1024x256 (rowsOf (tab m d) (num m d)) shapeCasts_S16384x2x128_S16x1024x256

abbrev a' : DevRef τ sig := Proc.devRef .tc (main_arg0 : Ref sig .tc)
abbrev w' : DevRef τ sig := Proc.devRef .tc (main_arg1 : Ref sig .tc)
abbrev c' : DevRef τ sig := Proc.devRef .tc (main_arg2 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev z' : DevRef τ sig := Proc.devRef .tc (main_v3 : Ref sig .tc)

abbrev opT : HloOp τ sig (Elt F) := StableHlo.reshape main_arg1 main_v0 (rfl : (.f32 : EltTy) = .f32) shapeCasts_S8192x256_S8192x2x128
abbrev opI : HloOp τ sig (Elt F) := StableHlo.reshape main_arg2 main_v1 (rfl : (.i32 : EltTy) = .i32) shapeCasts_S16x1024_S16384
abbrev opZ : HloOp τ sig (Elt F) := StableHlo.reshape main_v2 main_v3 (rfl : (.f32 : EltTy) = .f32) shapeCasts_S16384x2x128_S16x1024x256

abbrev S7 : Finset (DevRef τ sig) := {a', w', c', t', i', o', z'}

omit [FloatOps F] in
theorem held_S7 (d : Dev nD) (W : Valuation τ sig (Elt F)) :
    (held (T d) S7 W : sProp 𝕄)
      = iprop((aLoc d ↦{fullShare} W a') ∗ (wLoc d ↦{fullShare} W w') ∗ (cLoc d ↦{fullShare} W c') ∗ (tLoc d ↦{fullShare} W t')
          ∗ (iLoc d ↦{fullShare} W i') ∗ (oLoc d ↦{fullShare} W o') ∗ zLoc d ↦{fullShare} W z') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (wLoc d ↦{fullShare} W main_arg1) ∗ (cLoc d ↦{fullShare} W main_arg2) ∗ (tLoc d ↦{fullShare} W main_v0)
          ∗ (iLoc d ↦{fullShare} W main_v1) ∗ (oLoc d ↦{fullShare} W main_v2) ∗ zLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch, after the two reshapes, and after the call. -/
def V0 (d : Dev nD) : Valuation τ sig (Elt F) := fun b => m (d, b)
def V1 (d : Dev nD) : Valuation τ sig (Elt F) := (opT (F := F)).result (V0 m d)
def V2 (d : Dev nD) : Valuation τ sig (Elt F) := (opI (F := F)).result (V1 m d)
def V3 (d : Dev nD) : Valuation τ sig (Elt F) := Function.update (V2 m d) o' (rowsOf (tab m d) (num m d))

theorem unscoped_held (d : Dev nD) : (unscopedBufs d (fun b => m ((SparseCore.T d).loc b)) : sProp 𝕄) = held (T d) S7 (V0 m d) := by
  rw [unscopedBufs_eq, held_S7]; rfl

theorem V2_other (d : Dev nD) (b : DevRef τ sig) (h1 : b ∉ ({t'} : Finset (DevRef τ sig))) (h2 : b ∉ ({i'} : Finset (DevRef τ sig))) :
    V2 m d b = m (d, b) := by
  unfold V2 V1
  rw [(opI (F := F)).result_of_not_mem _ h2, (opT (F := F)).result_of_not_mem _ h1]
  rfl

theorem V2_t (d : Dev nD) : V2 m d t' = tab m d := by
  unfold V2 V1
  rw [(opI (F := F)).result_of_not_mem _ (show t' ∉ ({i'} : Finset (DevRef τ sig)) by decide)]
  exact StableHlo.reshape_result _ _ _ _ _ _ _

theorem V2_i (d : Dev nD) : V2 m d i' = num m d := by
  unfold V2
  refine (StableHlo.reshape_result _ _ _ _ _ _ _).trans ?_
  unfold V1
  rw [(opT (F := F)).result_of_not_mem _ (show c' ∉ ({t'} : Finset (DevRef τ sig)) by decide)]
  rfl

theorem V3_other (d : Dev nD) (b : DevRef τ sig) (h : b ≠ o') : V3 m d b = V2 m d b := Function.update_of_ne h _ _
theorem V3_o (d : Dev nD) : V3 m d o' = rowsOf (tab m d) (num m d) := Function.update_self _ _ _

/-- The seven arrays before the call. -/
theorem held_V2 (d : Dev nD) :
    (held (T d) S7 ((opI (F := F)).result ((opT (F := F)).result (V0 m d))) : sProp 𝕄)
      = iprop((aLoc d ↦{fullShare} m (aLoc d)) ∗ (wLoc d ↦{fullShare} m (wLoc d)) ∗ (cLoc d ↦{fullShare} m (cLoc d)) ∗ (tLoc d ↦{fullShare} tab m d)
          ∗ (iLoc d ↦{fullShare} num m d) ∗ (oLoc d ↦{fullShare} m (oLoc d)) ∗ zLoc d ↦{fullShare} m (zLoc d)) := by
  show held (SparseCore.T d) S7 (V2 m d) = _
  rw [held_S7, V2_t, V2_i, V2_other m d a' (by decide) (by decide), V2_other m d w' (by decide) (by decide), V2_other m d c' (by decide) (by decide),
    V2_other m d o' (by decide) (by decide), V2_other m d z' (by decide) (by decide)]

/-- The seven arrays after the call. -/
theorem held_V3 (d : Dev nD) :
    (held (T d) S7 (V3 m d) : sProp 𝕄)
      = iprop((aLoc d ↦{fullShare} m (aLoc d)) ∗ (wLoc d ↦{fullShare} m (wLoc d)) ∗ (cLoc d ↦{fullShare} m (cLoc d)) ∗ (tLoc d ↦{fullShare} tab m d)
          ∗ (iLoc d ↦{fullShare} num m d) ∗ (oLoc d ↦{fullShare} rowsOf (tab m d) (num m d)) ∗ zLoc d ↦{fullShare} m (zLoc d)) := by
  rw [held_S7, V3_o, V3_other m d a' (by decide), V3_other m d w' (by decide), V3_other m d c' (by decide), V3_other m d t' (by decide),
    V3_other m d i' (by decide), V3_other m d z' (by decide), V2_t, V2_i,
    V2_other m d a' (by decide) (by decide), V2_other m d w' (by decide) (by decide), V2_other m d c' (by decide) (by decide),
    V2_other m d z' (by decide) (by decide)]

/-- The arguments and the result after the last reshape. -/
theorem held_V4 (d : Dev nD) :
    (held (T d) S7 ((opZ (F := F)).result (V3 m d)) : sProp 𝕄)
      = iprop((aLoc d ↦{fullShare} m (aLoc d)) ∗ (wLoc d ↦{fullShare} m (wLoc d)) ∗ (cLoc d ↦{fullShare} m (cLoc d))
          ∗ (tLoc d ↦{fullShare} (opZ (F := F)).result (V3 m d) t') ∗ (iLoc d ↦{fullShare} (opZ (F := F)).result (V3 m d) i')
          ∗ (oLoc d ↦{fullShare} (opZ (F := F)).result (V3 m d) o') ∗ zLoc d ↦{fullShare} rows m d) := by
  rw [held_S7, (opZ (F := F)).result_of_not_mem (V3 m d) (b := a') (show a' ∉ ({z'} : Finset (DevRef τ sig)) by decide),
    (opZ (F := F)).result_of_not_mem (V3 m d) (b := w') (show w' ∉ ({z'} : Finset (DevRef τ sig)) by decide),
    (opZ (F := F)).result_of_not_mem (V3 m d) (b := c') (show c' ∉ ({z'} : Finset (DevRef τ sig)) by decide),
    V3_other m d a' (by decide), V3_other m d w' (by decide), V3_other m d c' (by decide),
    V2_other m d a' (by decide) (by decide), V2_other m d w' (by decide) (by decide), V2_other m d c' (by decide) (by decide),
    show (opZ (F := F)).result (V3 m d) z' = rows m d from (StableHlo.reshape_result _ _ _ _ _ _ _).trans (by rw [V3_o]; rfl)]

theorem hT : (opT (F := F)).bufs ⊆ S7 := show ({w', t'} : Finset (DevRef τ sig)) ⊆ S7 by decide
theorem hI : (opI (F := F)).bufs ⊆ S7 := show ({c', i'} : Finset (DevRef τ sig)) ⊆ S7 by decide
theorem hZ : (opZ (F := F)).bufs ⊆ S7 := show ({o', z'} : Finset (DevRef τ sig)) ⊆ S7 by decide

/-! ## @main on the TensorCore -/

/-- What the handshakes carry, at these contents. -/
abbrev Pm : (K (F := F)).Pay (nD := nD) (Val := Elt F) (Name := ℕ) (U := UU) := P (tab m) (num m) (fun d => m (oLoc d))

/-- What is kept to the end: the arguments as they were, the result at the rows. -/
abbrev FIN (d : Dev nD) : sProp 𝕄 :=
  iprop((aLoc d ↦{fullShare} m (aLoc d)) ∗ (wLoc d ↦{fullShare} m (wLoc d)) ∗ (cLoc d ↦{fullShare} m (cLoc d)) ∗ zLoc d ↦{fullShare} rows m d)

/-- The program on device `d`'s TensorCore: two reshapes, the call, one reshape. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S7) hT (V := V0 m d)) $$ [Hb Hheld]
  · isplitl [Hb] <;> iassumption
  iintro ⟨Hb, Hheld⟩
  rw [wp_ret]; imodintro
  iapply (wp_hlo_within 𝒱 (SparseCore.T d) none Set.univ (op := opI) (S := S7) hI (V := (opT (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hw, Hc, Ht, Hi, Ho, Hz⟩
  iapply ((K (F := F)).wp_run (D (F := F)) 𝒱 (EH := EH) (P := Pm m) κ d 0) $$ [Hst Ha Hw Hc Ht Hi Ho Hz Hb Hts]
  isplitr; · iexact Hctx
  isplitl [Hst]; · iexact Hst
  isplitl [Ht Hi Ho]
  · rw [st_eq]
    isplitl [Hi]; · iexact Hi
    isplitl [Ht]; · iexact Ht
    iexact Ho
  iintro ⟨Hst, Hdn⟩
  ihave Hdn' := (Entails.of_eq (dn_eq (tab m) (num m) (fun d => m (oLoc d)) d)) $$ Hdn
  icases Hdn' with ⟨Hi, Ht, Ho⟩
  iapply (wp_hlo_within 𝒱 (SparseCore.T d) none Set.univ (op := opZ) (S := S7) hZ (V := V3 m d)) $$ [Hb Ha Hw Hc Ht Hi Ho Hz]
  · isplitl [Hb]; · iexact Hb
    rw [held_V3]
    isplitl [Ha]; · iexact Ha
    isplitl [Hw]; · iexact Hw
    isplitl [Hc]; · iexact Hc
    isplitl [Ht]; · iexact Ht
    isplitl [Hi]; · iexact Hi
    isplitl [Ho]; · iexact Ho
    iexact Hz
  iintro ⟨Hb, Hheld⟩
  ihave Hh := (Entails.of_eq (held_V4 (F := F) m d)) $$ Hheld
  icases Hh with ⟨Ha, Hw, Hc, -, -, -, Hz⟩
  rw [wp_ret]; imodintro; imodintro
  isplitl [Hst]; · iexact Hst
  isplitr [Hb Hts]
  · isplitl [Ha]; · iexact Ha
    isplitl [Hw]; · iexact Hw
    isplitl [Hc]; · iexact Hc
    iexact Hz
  isplitl [Hb] <;> iassumption

/-- What a final memory shows on device `d`. -/
def fq (d : Dev nD) (s' : Phys nD τ sig (Elt F)) : Prop :=
  s'.mem.mem (aLoc d) = m (aLoc d) ∧ s'.mem.mem (wLoc d) = m (wLoc d) ∧ s'.mem.mem (cLoc d) = m (cLoc d) ∧ s'.mem.mem (zLoc d) = rows m d

set_option maxRecDepth 16384 in
theorem hfin (d : Dev nD) (s' : Phys nD τ sig (Elt F)) : iprop(FIN m d ∗ SI s') ⊢ (⌜fq m d s'⌝ : sProp 𝕄) := by
  iintro ⟨⟨Ha, Hw, Hc, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h0, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := zLoc d) (I := Finset.univ) (q := fullShare) (f := rows m d)) $$ [HSI Hz]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The run -/

/-- What the run ends in: arguments unchanged, the result at the rows, semaphores at zero. -/
def QC : PUnit × MemSt nD τ sig (Elt F) → Prop := fun r =>
  (∀ d : Dev nD, r.2.mem (aLoc d) = m (aLoc d) ∧ r.2.mem (wLoc d) = m (wLoc d) ∧ r.2.mem (cLoc d) = m (cLoc d) ∧ r.2.mem (zLoc d) = rows m d)
    ∧ r.2.sem = fun _ => 0

/-- The row numbers lie in the table. -/
def InRange : Prop := ∀ (d : Dev nD) j, (m (cLoc d) j : BitVec 32).toNat < 8192

theorem run_main [∀ e, Nonempty (Elt F e)] (h : InRange m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ facts fun d j => h d _)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Kernel.Rows

end
-- ==== Proof.Gather.Ideal.lean ====
/-
  The same run for the program read over the extended reals: it is the same program.
-/
module

public import proofs.«01_k».proof.Proof.Gather.Run
public import proofs.«01_k».proof.Proof.Gen.KernelIdeal

@[expose] public section

noncomputable section

namespace Cert.KernelIdeal.Rows

open Idealize.ShloMosaic Idealize.SL.Sem

set_option maxRecDepth 16384 in
theorem run_main (m : (ℓ : Loc KernelIdeal.nD KernelIdeal.τ KernelIdeal.sig) → Buf (Elt Ideal) ℓ) (ρ : Dev KernelIdeal.nD → PrngReg)
    (h : Cert.Kernel.Rows.InRange (F := Ideal) m) :
    θ_run (Cert.KernelIdeal.defs (F := Ideal)) (Cert.KernelIdeal.threads (F := Ideal)) ⟨m, fun _ => 0, ρ⟩ (Cert.Kernel.Rows.QC (F := Ideal) m) :=
  Cert.Kernel.Rows.run_main (F := Ideal) m ρ h

end Cert.KernelIdeal.Rows

end
-- ==== Proof.Gather.Equation.lean ====
/-
  The equation of the gather: under the precondition the rows the program leaves, in the arguments' shape, are
  `z + (table[code] - z)` over the extended reals, the reference's own expression.
-/
module

public import proofs.«01_k».proof.Proof.Gather.Run
public import proofs.«01_k».proof.Proof.Gen.ReferenceIdeal.Run
public import proofs.«01_k».proof.Proof.Gen.Pre_codes_in_range
public import Idealize.ShloMosaic.Lib.ValueIdx
public import Idealize.ShloMosaic.Lib.ReduceAll
public import Idealize.ShloMosaic.Lib.Pipeline.Value

@[expose] public section

noncomputable section

namespace Cert.Rows

open Idealize.ShloMosaic Idealize.ShloMosaic.ValueIdx

abbrev Sz : Shape := ⟨3, ![16, 1024, 256]⟩
abbrev Sw : Shape := ⟨2, ![8192, 256]⟩
abbrev Sc : Shape := ⟨2, ![16, 1024]⟩

/-! ## What the precondition says -/

theorem and_one {a b : BitVec 1} (h : IntOp.andi a b = 1#1) : a = 1#1 ∧ b = 1#1 := by
  revert h; revert a b; decide

theorem word_range {v : BitVec 32} (h0 : IntOp.cmpi .sge v 0#32 = 1#1) (h1 : IntOp.cmpi .slt v 8192#32 = 1#1) : v.toNat < 8192 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- The precondition: every code below 8192, and every number of `z` smaller in size than infinity. -/
theorem pre_parts {F : FTy → Type} [FloatOps F] (z : FVec F Sz .f32) (w : FVec F Sw .f32) (c : IVec Sc 32)
    (h : Cert.Pre_codes_in_range.fn (F := F) z w c = fun _ => 1#1) :
    (∀ j, (c j).toNat < 8192) ∧ ∀ i, FloatOps.cmpf .olt (FloatOps.hostAbsf (z i)) (FloatOps.ofBits (F := F) .f32 0x7F800000#32) = 1#1 := by
  have parts : ∀ i : Sz.Idx, (IntOp.cmpi .sge (c (ix2 (i 0) (i 1))) 0#32 = 1#1 ∧ IntOp.cmpi .slt (c (ix2 (i 0) (i 1))) 8192#32 = 1#1)
      ∧ FloatOps.cmpf .olt (FloatOps.hostAbsf (z i)) (FloatOps.ofBits (F := F) .f32 0x7F800000#32) = 1#1 := by
    intro i
    have e := and_one (congrFun h i)
    refine ⟨?_, e.2⟩
    have e1 := e.1
    have hc : ∀ (v : IVec Sc 1), broadcastInDim (Cert.Pre_codes_in_range.S16x1024x256) ![0, 1, 2] Cert.Pre_codes_in_range.Facts.bcast_S16x1024x1_S16x1024x256_0_1_2
        (broadcastInDim (Cert.Pre_codes_in_range.S16x1024x1) ![0, 1] Cert.Pre_codes_in_range.Facts.bcast_S16x1024_S16x1024x1_0_1 v) i = v (ix2 (i 0) (i 1)) := by
      intro v
      unfold broadcastInDim
      refine congrArg v (funext fun a => Fin.ext ?_)
      match a with
      | ⟨0, _⟩ => rfl
      | ⟨1, _⟩ => rfl
    rw [hc] at e1
    exact and_one e1
  refine ⟨fun j => ?_, fun i => (parts i).2⟩
  have := (parts (ix3 (j 0) (j 1) 0)).1
  rw [show (ix2 ((ix3 (j 0) (j 1) (0 : Fin 256) : Sz.Idx) 0) ((ix3 (j 0) (j 1) (0 : Fin 256) : Sz.Idx) 1) : Sc.Idx) = j from (eq_ix2 j).symm] at this
  exact word_range this.1 this.2

/-- Over the extended reals a number smaller in size than infinity is a real number. -/
theorem finite_of_abs {x : Ideal .f32} (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp only [Ideal.cmp] at h'
    simp [hn] at h'
  have hb := lt_of_le_of_lt (le_max_left _ _) hlt
  have hn := lt_of_le_of_lt (le_max_right _ _) hlt
  refine ⟨EReal.toReal x, (EReal.coe_toReal hb.ne ?_).symm⟩
  rintro rfl
  exact absurd hn (by simp)

/-- Adding back what was taken away: for a real number `z`, `z + (q - z) = q`. -/
theorem straight_through (z q : EReal) (h : ∃ r : ℝ, z = r) : z + (q - z) = q := by
  obtain ⟨r, rfl⟩ := h
  induction q using EReal.rec with
  | bot => simp
  | coe x => rw [← EReal.coe_sub, ← EReal.coe_add]; congr 1; ring
  | top => simp

/-! ## The two sides read at an index -/

/-- The row of the table that the code at `(b, n)` names, at column `e`. -/
def pick {α : Type} (w : Sw.Idx → α) (c : IVec Sc 32) (i : Sz.Idx) : α :=
  w (ix2 ⟨(c (ix2 (i 0) (i 1))).toNat % 8192, Nat.mod_lt _ (by decide)⟩ (i 2))

/-- The program's result is that row. -/
theorem rows_eq_pick {F : FTy → Type} [FloatOps F] (w : Sw.Idx → F .f32) (c : IVec Sc 32) :
    shapeCast Cert.Kernel.S16x1024x256 (Cert.Kernel.Rows.rowsOf (F := F)
        (shapeCast Cert.Kernel.S8192x2x128 w Cert.Kernel.Gen.facts.shapeCasts_S8192x256_S8192x2x128)
        (shapeCast Cert.Kernel.S16384 c Cert.Kernel.Gen.facts.shapeCasts_S16x1024_S16384))
      Cert.Kernel.Gen.facts.shapeCasts_S16384x2x128_S16x1024x256 = pick w c := by
  funext i
  have h0 : (i 0).val < 16 := (i 0).isLt
  have h1 : (i 1).val < 1024 := (i 1).isLt
  have h2 : (i 2).val < 256 := (i 2).isLt
  rw [shapeCast_apply _ _ i (ix3 (n0 := 16384) (n1 := 2) (n2 := 128) ⟨(i 0).val * 1024 + (i 1).val, by omega⟩ ⟨(i 2).val / 128, by omega⟩ ⟨(i 2).val % 128, by omega⟩)
    (by rw [Shape.rowMajor_val_three, Shape.rowMajor_val_three]; simp; omega)]
  have key : ∀ j : Cert.Kernel.S8192x2x128.Idx, (j 1).val = (i 2).val / 128 → (j 2).val = (i 2).val % 128 →
      shapeCast Cert.Kernel.S8192x2x128 w Cert.Kernel.Gen.facts.shapeCasts_S8192x256_S8192x2x128 j = w (ix2 (j 0) (i 2)) := by
    intro j e1 e2
    refine shapeCast_apply _ _ _ _ ?_
    rw [Shape.rowMajor_val_three, Shape.rowMajor_val_two]
    show (j 0).val * 256 + (i 2).val = ((j 0).val * 2 + (j 1).val) * 128 + (j 2).val
    omega
  refine (key _ rfl rfl).trans (congrArg w (congrArg (fun r => ix2 r (i 2)) (Fin.ext ?_)))
  refine congrArg (fun v : BitVec 32 => v.toNat % 8192) (shapeCast_apply (t := Cert.Kernel.S16384) c _ _ (ix2 (i 0) (i 1)) ?_)
  rw [Shape.rowMajor_val_two, Shape.rowMajor_val_one]
  rfl

open Cert.ReferenceIdeal Cert.ReferenceIdeal.Gen in
/-- The gather of whole rows, read at an index: the row whose number stands at `(b, n)`, read signed and kept in range. -/
theorem gather_rows {α : Type} (w : Sw.Idx → α) (x : IVec ⟨3, ![16, 1024, 1]⟩ 32) (i : Sz.Idx) :
    Host.gather gather_S8192x256_S16x1024x1_S16x1024x256_2_0_n_n_0_2_1256 w x i
      = w (ix2 ⟨min (x (ix3 (i 0) (i 1) 0)).toInt.toNat 8191, by omega⟩ (i 2)) := by
  unfold Host.gather
  congr 1
  funext a
  refine Fin.ext ?_
  show GatherDims.start _ i x a + GatherDims.batchCoord _ i a + GatherDims.offCoord _ i a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x256_S16x1024x1_S16x1024x256_2_0_n_n_0_2_1256.startIndexMap from List.mem_singleton.mpr rfl)]
    have hsi : gather_S8192x256_S16x1024x1_S16x1024x256_2_0_n_n_0_2_1256.siIdx i
        ⟨List.idxOf (0 : Fin 2) gather_S8192x256_S16x1024x1_S16x1024x256_2_0_n_n_0_2_1256.startIndexMap,
          List.idxOf_lt_length_iff.2 (List.mem_singleton.mpr rfl)⟩ = ix3 (i 0) (i 1) 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show (1 : Fin 2) ∉ gather_S8192x256_S16x1024x1_S16x1024x256_2_0_n_n_0_2_1256.startIndexMap by decide),
      dif_pos (show (1 : Fin 2) ∈ gather_S8192x256_S16x1024x1_S16x1024x256_2_0_n_n_0_2_1256.sKept by decide)]
    simp only [Nat.zero_add]
    rfl

open Cert.ReferenceIdeal Cert.ReferenceIdeal.Gen in
/-- The row numbers as the reference's take uses them: a negative one counted from the table's end. -/
abbrev wrapped (c : IVec Sc 32) : IVec ⟨3, ![16, 1024, 1]⟩ 32 :=
  broadcastInDim S16x1024x1 ![0, 1] bcast_S16x1024_S16x1024x1_0_1 (select (cmpi .slt c (broadcastInDim S16x1024 ![] bcast_S_S16x1024 (constantI S_ 32 0#32)))
    (addi c (broadcastInDim S16x1024 ![] bcast_S_S16x1024 (constantI S_ 32 8192#32))) c)

theorem wrapped_eq (c : IVec Sc 32) (h : ∀ j, (c j).toNat < 8192) (j : (⟨3, ![16, 1024, 1]⟩ : Shape).Idx) : wrapped c j = c (ix2 (j 0) (j 1)) := by
  have one (p : Bool) : (BitVec.ofBool p = 1#1) ↔ p = true := by cases p <;> decide
  have hidx : ∀ v : IVec Sc 32, broadcastInDim Cert.ReferenceIdeal.S16x1024x1 ![0, 1] Cert.ReferenceIdeal.Gen.facts.bcast_S16x1024_S16x1024x1_0_1 v j = v (ix2 (j 0) (j 1)) := by
    intro v
    unfold broadcastInDim
    refine congrArg v (funext fun a => Fin.ext ?_)
    match a with
    | ⟨0, _⟩ => rfl
    | ⟨1, _⟩ => rfl
  refine (hidx _).trans ?_
  rw [select_apply]
  have hz : IntOp.cmpi .slt (c (ix2 (j 0) (j 1))) 0#32 = 0#1 := by
    refine eq_zero_of_ne_one fun e => ?_
    have hb := h (ix2 (j 0) (j 1))
    simp only [IntOp.cmpi, one, BitVec.slt_eq_decide, decide_eq_true_eq, BitVec.toInt_eq_toNat_cond,
      BitVec.toNat_ofNat, Nat.reducePow, Nat.reduceMod] at e
    omega
  show Scalar.select (IntOp.cmpi .slt (c (ix2 (j 0) (j 1))) 0#32) _ _ = _
  rw [hz]; rfl

open Cert.ReferenceIdeal Cert.ReferenceIdeal.Gen in
/-- The reference's result is that row as well. -/
theorem reference_eq_pick (z : FVec Ideal Sz .f32) (w : FVec Ideal Sw .f32) (c : IVec Sc 32)
    (hc : ∀ j, (c j).toNat < 8192) (hz : ∀ i, ∃ r : ℝ, (z i : EReal) = r) :
    addf z (subf (select (broadcastInDim S16x1024x256 ![0, 1] bcast_S16x1024_S16x1024x256_0_1
        (Host.reduce IntOp.andi (andi (cmpi .sge (wrapped c) (broadcastInDim S16x1024x1 ![] bcast_S_S16x1024x1 (constantI S_ 32 0#32)))
          (cmpi .sle (wrapped c) (broadcastInDim S16x1024x1 ![0, 1, 2] bcast_S1x1x1_S16x1024x1_0_1_2 (broadcastInDim S1x1x1 ![2] bcast_S1_S1x1x1_2 (constantI S1 32 8191#32)))))
          (constantI S_ 1 1#1) reducesTo_S16x1024x1_S16x1024_d2 h_S_))
        (Host.gather gather_S8192x256_S16x1024x1_S16x1024x256_2_0_n_n_0_2_1256 w (wrapped c))
        (broadcastInDim S16x1024x256 ![] bcast_S_S16x1024x256 (constant S_ .f32 0x7FC00000#32))) z)
      = pick w c := by
  funext i
  rw [addf_apply, subf_apply, straight_through _ _ (hz i), select_apply, gather_rows]
  have hall : ∀ j : S16x1024.Idx, Host.reduce IntOp.andi (andi (cmpi .sge (wrapped c) (broadcastInDim S16x1024x1 ![] bcast_S_S16x1024x1 (constantI S_ 32 0#32)))
          (cmpi .sle (wrapped c) (broadcastInDim S16x1024x1 ![0, 1, 2] bcast_S1x1x1_S16x1024x1_0_1_2 (broadcastInDim S1x1x1 ![2] bcast_S1_S1x1x1_2 (constantI S1 32 8191#32)))))
          (constantI S_ 1 1#1) reducesTo_S16x1024x1_S16x1024_d2 h_S_ j = 1#1 := by
    intro j
    refine Host.reduce_andi_one _ _ _ _ _ rfl fun k => ?_
    show IntOp.andi (IntOp.cmpi .sge (wrapped c k) 0#32) (IntOp.cmpi .sle (wrapped c k) 8191#32) = 1#1
    rw [wrapped_eq c hc]
    have hb := hc (ix2 (k 0) (k 1))
    have one (p : Bool) : (BitVec.ofBool p = 1#1) ↔ p = true := by cases p <;> decide
    have g0 : IntOp.cmpi .sge (c (ix2 (k 0) (k 1))) 0#32 = 1#1 := by
      simp only [IntOp.cmpi, one, BitVec.sle_eq_decide, decide_eq_true_eq, BitVec.toInt_eq_toNat_cond, BitVec.toNat_ofNat, Nat.reducePow, Nat.reduceMod]
      omega
    have g1 : IntOp.cmpi .sle (c (ix2 (k 0) (k 1))) 8191#32 = 1#1 := by
      simp only [IntOp.cmpi, one, BitVec.sle_eq_decide, decide_eq_true_eq, BitVec.toInt_eq_toNat_cond, BitVec.toNat_ofNat, Nat.reducePow, Nat.reduceMod]
      omega
    rw [g0, g1]; rfl
  rw [show broadcastInDim S16x1024x256 ![0, 1] bcast_S16x1024_S16x1024x256_0_1
        (Host.reduce IntOp.andi (andi (cmpi .sge (wrapped c) (broadcastInDim S16x1024x1 ![] bcast_S_S16x1024x1 (constantI S_ 32 0#32)))
          (cmpi .sle (wrapped c) (broadcastInDim S16x1024x1 ![0, 1, 2] bcast_S1x1x1_S16x1024x1_0_1_2 (broadcastInDim S1x1x1 ![2] bcast_S1_S1x1x1_2 (constantI S1 32 8191#32)))))
          (constantI S_ 1 1#1) reducesTo_S16x1024x1_S16x1024_d2 h_S_) i = 1#1 from hall _, select_one]
  unfold pick
  refine congrArg w (congrArg (fun r => ix2 r (i 2)) (Fin.ext ?_))
  have hb := hc (ix2 (i 0) (i 1))
  show min (wrapped c (ix3 (i 0) (i 1) 0)).toInt.toNat 8191 = (c (ix2 (i 0) (i 1))).toNat % 8192
  rw [wrapped_eq c hc]
  show min (c (ix2 (i 0) (i 1))).toInt.toNat 8191 = (c (ix2 (i 0) (i 1))).toNat % 8192
  rw [BitVec.toInt_eq_toNat_cond]
  split <;> omega

end Cert.Rows

end
-- ==== Proof.Gather.Claims.lean ====
/-
  The claims of the gather: both programs' frames, the reference's frame, and the equality of the two results over the
  extended reals.
-/
module

public import proofs.«01_k».proof.Proof.Gather.Ideal
public import proofs.«01_k».proof.Proof.Gather.Equation

@[expose] public section

noncomputable section

namespace Cert.Rows

open Idealize.ShloMosaic Idealize.SL.Sem

/-- The program as compiled: it ends, with its arguments unchanged and its semaphores at zero. -/
theorem frame_kernel : Cert.quiescent_Kernel := fun m ρ hpre =>
  (θ_run Cert.Kernel.defs _ _).mono (fun _ h => ⟨fun c => ⟨(h.1 c).1, (h.1 c).2.1, (h.1 c).2.2.1⟩, h.2⟩)
    (Cert.Kernel.Rows.run_main (F := Bits) m ρ fun d => (pre_parts _ _ _ (hpre d)).1)

/-- The same program over the extended reals. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (Cert.KernelIdeal.Rows.run_main m ρ fun d => (pre_parts _ _ _ (hpre d)).1)

/-- The reference ends with its arguments unchanged; it has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_codes_in_range := fun m ρ _ => frame_reference m ρ trivial

/-- The two results are equal: each is the row of the table that the code names. -/
theorem algebraic : Cert.algebraic_KernelIdeal_ReferenceIdeal := by
  intro m g m' g' hpre hargs
  refine ⟨fun c => pick (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h.1 c).2.2.2.trans (rows_eq_pick (F := Ideal) _ _), (h.1 c).1, (h.1 c).2.1, (h.1 c).2.2.1⟩)
      (Cert.KernelIdeal.Rows.run_main m g fun d => (pre_parts _ _ _ (hpre d)).1)
  · refine (θ_run Cert.ReferenceIdeal.defs _ _).mono (fun _ h c => ⟨(h c).1.trans ?_, (h c).2⟩) (Cert.ReferenceIdeal.Value.run (F := Ideal) m' g')
    have hp := pre_parts _ _ _ (hpre c)
    rw [(hargs c).1, (hargs c).2.1, (hargs c).2.2]
    exact reference_eq_pick _ _ _ hp.1 fun i => finite_of_abs (hp.2 i)

end Cert.Rows

end
-- ==== Proof.Codes.Block.lean ====
/- What one grid point of the search for the codes computes, as one recursion over the table's groups of 128 rows: the
   sub-block `sb` of 128 rows keeps, lane by lane, the least score met so far and the group that it was met in. -/
module

public import proofs.«01_k».proof.Proof.Gen.CodesIdeal.Value
public import Idealize.ShloMosaic.Lib.Tactic

@[expose] public section

set_option maxRecDepth 65536

noncomputable section

namespace Cert.CodesIdeal.Search

open Cert.CodesIdeal Cert.CodesIdeal.Gen Idealize.ShloMosaic Idealize.ShloMosaic.TcCoe Idealize.SL.Sem

variable {F : FTy → Type} [FloatOps F]

/-- A block of 128 x 128 lies inside the products at a sub-block of rows and a group of columns. -/
theorem tile_inside (sb : Fin 8) (n : ℕ) :
    ∀ a, (![sb.val * 128, n % 16 * 128] : Fin 2 → ℕ) a + S128x128.size a ≤ S1024x2048.size a := by
  have h := sb.isLt
  have h' : n % 16 < 16 := Nat.mod_lt _ (by decide)
  intro a
  fin_cases a
  · show sb.val * 128 + 128 ≤ 1024
    omega
  · show n % 16 * 128 + 128 ≤ 2048
    omega

/-- A sub-block of 128 rows lies inside the 1024. -/
theorem rows_inside (sb : Fin 8) : ∀ a, (![sb.val * 128] : Fin 1 → ℕ) a + S128.size a ≤ S1024.size a := by
  have h := sb.isLt
  intro a
  fin_cases a
  show sb.val * 128 + 128 ≤ 1024
  omega

/-- The same, as a slice. -/
theorem rows_slice (sb : Fin 8) : S1024.Slices ![sb.val * 128] S128 :=
  ⟨rfl, fun a => rows_inside sb a⟩

/-- Four parts of the products, each with the scratch that holds it and the pieces written there. -/
structure Parts (F : FTy → Type) where
  v0 : View sig .tc .vmem S1024x2048 .f32
  v1 : View sig .tc .vmem S1024x2048 .f32
  v2 : View sig .tc .vmem S1024x2048 .f32
  v3 : View sig .tc .vmem S1024x2048 .f32
  l0 : List (View.Piece (Elt F) S1024x2048 .f32)
  l1 : List (View.Piece (Elt F) S1024x2048 .f32)
  l2 : List (View.Piece (Elt F) S1024x2048 .f32)
  l3 : List (View.Piece (Elt F) S1024x2048 .f32)

/-- The block of products of sub-block `sb` with group `n` of the table's rows. -/
def Parts.tile (M : Parts F) (sb : Fin 8) (n : ℕ) : FVec F S128x128 .f32 :=
  let B := (Rect.unit (s := S1024x2048) ![sb.val * 128, n % 16 * 128] S128x128.size (tile_inside sb n)).toLoadRect
  match n / 16 with
  | 0 => M.v0.readCov M.l0 B
  | 1 => M.v1.readCov M.l1 B
  | 2 => M.v2.readCov M.l2 B
  | _ => M.v3.readCov M.l3 B

/-- The scores of group `n`: the rows' squared norms less the products. -/
def scores (rn : FVec F S1024 .f32) (M : Parts F) (sb : Fin 8) (n : ℕ) : FVec F S128x128 .f32 :=
  subf (broadcastTo S128x128 (shapeCast S128x1 (extractStridedSlice S128 ![sb.val * 128] rn (rows_slice sb)) shapeCasts_S128_S128x1)
    broadcasts_S128x1_S128x128) (M.tile sb n)

/-- The least score of each lane over the first `n` groups. -/
def least (rn : FVec F S1024 .f32) (M : Parts F) (sb : Fin 8) (n : ℕ) : FVec F S128x128 .f32 :=
  Nat.rec (broadcast S128x128 (Scalar.ofBits (F := F) .f32 0x7F800000#32)) (fun n v => minimumf v (scores rn M sb n)) n

/-- The group in which each lane met it first. -/
def source (rn : FVec F S1024 .f32) (M : Parts F) (sb : Fin 8) (n : ℕ) : IVec S128x128 32 :=
  Nat.rec (broadcast S128x128 0#32)
    (fun n g => select (cmpf .olt (scores rn M sb n) (least rn M sb n)) (broadcast S128x128 (BitVec.ofNat 32 n)) g) n

/-- The code of each row of the sub-block, from the lanes' least scores and their groups. -/
def pickCode (val : FVec F S128x128 .f32) (src : IVec S128x128 32) : IVec S128 32 :=
  fptosi 32 (multiReduction .minimumf [1] S128
    (select (cmpf (F := F) .oeq val (broadcastTo S128x128 (shapeCast S128x1
        (multiReduction .minimumf [1] S128 val 0x7F800000#32 reduces_S128x128_S128 (.inl rfl) rfl) shapeCasts_S128_S128x1)
        broadcasts_S128x1_S128x128))
      (sitofp .f32 (addi (muli src (broadcast S128x128 128#32)) (iota .tc S128x128 32 [1] iota_S128x128_d1_w32)))
      (broadcast S128x128 (Scalar.ofBits (F := F) .f32 0x4B800000#32)))
    0x7F800000#32 reduces_S128x128_S128 (.inl rfl) rfl)

/-- The codes of sub-block `sb`, as they are stored. -/
def piece (rn : FVec F S1024 .f32) (M : Parts F) (sb : Fin 8) : View.Piece (Elt F) S1024 .i32 :=
  ⟨Rect.unit (s := S1024) ![sb.val * 128] S128.size (rows_inside sb), pickCode (least rn M sb 64) (source rn M sb 64)⟩

/-- A load of the point's rows as they were staged. -/
def rowsOf (arg1 : Memref sig .tc .vmem S1024x256 .f32) (harg1 : arg1.IsWhole) (x0 : Vec F S1024x256 .f32) : Vec F S1024x256 .f32 :=
  View.readAt (Elt F) arg1.view (Rect.unit ![0, 0] S1024x256.size inb_S1024x256_S1024x256_0_0).toLoadRect (harg1.unread x0)

/-- The pieces that a run of the body stores in the codes' buffer are the eight sub-blocks', last first. -/
theorem pieces_eq (c : Dev nD) (i : grid0.Coords) (arg1 : Memref sig .tc .vmem S1024x256 .f32) (harg1 : arg1.IsWhole) (arg2 : Memref sig .tc .vmem S8192x256 .f32) (harg2 : arg2.IsWhole)
    (arg3 : Memref sig .tc .vmem S1024 .i32) (harg3 : arg3.IsWhole) (arg4 : Memref sig .tc .smem S1x1x1 .f32) (harg4 : arg4.IsWhole) (arg5 : Memref sig .tc .vmem S1024x2048 .f32) (harg5 : arg5.IsWhole)
    (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole)
    (x0 : Vec F S1024x256 .f32) (x1 : Vec F S8192x256 .f32) :
    (kernelRun0_A c i arg1 harg1 arg2 harg2 arg3 harg3 arg4 harg4 arg5 harg5 arg6 harg6 arg7 harg7 arg8 harg8 x0 x1).1
      = [7, 6, 5, 4, 3, 2, 1, 0].map (piece (k0_pay4 (rowsOf arg1 harg1 x0))
          ⟨arg5.view, arg6.view, arg7.view, arg8.view,
            (kernelRun0_A c i arg1 harg1 arg2 harg2 arg3 harg3 arg4 harg4 arg5 harg5 arg6 harg6 arg7 harg7 arg8 harg8 x0 x1).2.2.1,
            (kernelRun0_A c i arg1 harg1 arg2 harg2 arg3 harg3 arg4 harg4 arg5 harg5 arg6 harg6 arg7 harg7 arg8 harg8 x0 x1).2.2.2.1,
            (kernelRun0_A c i arg1 harg1 arg2 harg2 arg3 harg3 arg4 harg4 arg5 harg5 arg6 harg6 arg7 harg7 arg8 harg8 x0 x1).2.2.2.2.1,
            (kernelRun0_A c i arg1 harg1 arg2 harg2 arg3 harg3 arg4 harg4 arg5 harg5 arg6 harg6 arg7 harg7 arg8 harg8 x0 x1).2.2.2.2.2.1⟩) := by
  sl_kernel_rfl

end Cert.CodesIdeal.Search

end
-- ==== Proof.Codes.Lanes.lean ====
/-
  The lanes of one sub-block over the extended reals: where one score of a row is below every other, its lane keeps it
  with its group, and the row's code is that group's row of the table.
-/
module

public import proofs.«01_k».proof.Proof.Codes.Block
public import Idealize.ShloMosaic.Lib.ValueIdx
public import Idealize.ShloMosaic.Lib.Pipeline.Value
public import Idealize.ShloMosaic.Lib.Pointwise

@[expose] public section

noncomputable section

namespace Cert.CodesIdeal.Search

open Cert.CodesIdeal Cert.CodesIdeal.Gen Idealize.ShloMosaic

/-- The program's +infinity is the greatest extended real. -/
theorem inf_top : Ideal.ofBits .f32 0x7F800000#32 = ⊤ := by simp [Ideal.ofBits, Ideal.ieee]

/-! ## One lane over the groups -/

section Lane

variable (rn : FVec Ideal S1024 .f32) (M : Parts Ideal) (sb : Fin 8) (x : S128x128.Idx)

/-- Before the first group a lane holds +infinity. -/
theorem least_zero : least rn M sb 0 x = (⊤ : EReal) := inf_top

/-- Each group takes the lesser of what the lane holds and its score. -/
theorem least_succ (n : ℕ) : least rn M sb (n + 1) x = min (least rn M sb n x : EReal) (scores rn M sb n x) := rfl

/-- Each group takes the lane over where its score is strictly less. -/
theorem source_succ (n : ℕ) : source rn M sb (n + 1) x
    = Scalar.select (Ideal.cmp .olt (scores rn M sb n x) (least rn M sb n x)) (BitVec.ofNat 32 n) (source rn M sb n x) := rfl

/-- A choice by "less than", where it holds. -/
theorem select_lt {α : Type} (a b : EReal) (u v : α) (h : a < b) : Scalar.select (Ideal.cmp .olt a b) u v = u := by
  simp [Scalar.select, Ideal.cmp, h]

/-- A choice by "less than", where it does not hold. -/
theorem select_not_lt {α : Type} (a b : EReal) (u v : α) (h : ¬ a < b) : Scalar.select (Ideal.cmp .olt a b) u v = v := by
  simp [Scalar.select, Ideal.cmp, h]

/-- Above a number, a lane's least score stays above it. -/
theorem least_above (c : ℝ) (N : ℕ) (h : ∀ n, n < N → (c : EReal) < scores rn M sb n x) :
    ∀ n, n ≤ N → (c : EReal) < least rn M sb n x := by
  intro n
  induction n with
  | zero =>
    intro _
    rw [least_zero]
    exact EReal.coe_lt_top c
  | succ n ih =>
    intro hn
    rw [least_succ]
    exact lt_min (ih (by omega)) (h n (by omega))

/-- A lane whose group `a` scores below every other group ends with that score and that group. -/
theorem lane_first (a : ℕ) (c : ℝ) (ha : scores rn M sb a x = (c : EReal)) (N : ℕ) (haN : a < N)
    (h : ∀ n, n < N → n ≠ a → (c : EReal) < scores rn M sb n x) :
    least rn M sb N x = (c : EReal) ∧ source rn M sb N x = BitVec.ofNat 32 a := by
  have before : ∀ n, n ≤ a → (c : EReal) < least rn M sb n x := least_above rn M sb x c a fun n hn => h n (by omega) (by omega)
  have after : ∀ n, a < n → n ≤ N → least rn M sb n x = (c : EReal) ∧ source rn M sb n x = BitVec.ofNat 32 a := by
    intro n
    induction n with
    | zero => exact fun h => absurd h (Nat.not_lt_zero _)
    | succ n ih =>
      intro hn hN
      rw [least_succ, source_succ]
      by_cases e : n = a
      · subst e
        rw [ha, select_lt _ _ _ _ (before n le_rfl)]
        exact ⟨min_eq_right (before n le_rfl).le, rfl⟩
      · obtain ⟨h1, h2⟩ := ih (by omega) (by omega)
        have hs := h n (by omega) e
        rw [h1, select_not_lt _ _ _ _ hs.not_gt]
        exact ⟨min_eq_left hs.le, h2⟩
  exact after N haN le_rfl

end Lane

/-! ## The code of a row -/

/-- A reduction by the lesser, at entries of which one is at most every other, is that one. -/
theorem least_of {s t : Shape} {axes : List (Fin s.rank)} {ι : Type} (v : FVec Ideal s .f32) (h : s.Reduces axes t) (hφ : FKind.Formats .f32)
    (hacc : (0x7F800000#32 : BitVec 32) = FKind.minimumf.neutral .f32 hφ) (j : t.Idx) (e : ι → s.Idx) (he : ∀ a, h.drop (e a) = j)
    (hs : ∀ i, h.drop i = j → ∃ a, i = e a) (m : ι) (hm : ∀ a, (v (e m) : EReal) ≤ v (e a)) :
    multiReduction .minimumf axes t v 0x7F800000#32 h hφ hacc j = v (e m) := by
  rw [multiReduction_minimumf_eq_fold]
  refine le_antisymm (Finset.fold_min_le _ |>.2 (.inr ⟨e m, Finset.mem_filter.2 ⟨Finset.mem_univ _, he m⟩, le_rfl⟩))
    (Finset.le_fold_min _ |>.2 ⟨?_, fun i hj => ?_⟩)
  · exact le_top.trans inf_top.ge
  · obtain ⟨a, rfl⟩ := hs i (Finset.mem_filter.1 hj).2
    exact hm a

/-- The same along a row of 128 lanes. -/
theorem least_lane (v : FVec Ideal S128x128 .f32) (i l : Fin 128) (hm : ∀ l', (v (ix2 i l) : EReal) ≤ v (ix2 i l')) :
    multiReduction .minimumf [1] S128 v 0x7F800000#32 reduces_S128x128_S128 (.inl rfl) rfl (ix1 i) = v (ix2 i l) :=
  least_of v _ _ _ _ (fun l : Fin 128 => ix2 i l) (fun l => by
      funext a; apply Fin.ext; match a with | ⟨0, _⟩ => rfl) (fun j hj => ⟨j 1, by
        funext a; apply Fin.ext
        match a with
        | ⟨0, _⟩ => exact congrArg Fin.val (congrFun hj 0)
        | ⟨1, _⟩ => rfl⟩) l hm

/-- A vector over the rows, spread over the lanes. -/
theorem over_lanes {α : Type} (v : S128.Idx → α) (i l : Fin 128) :
    broadcastTo S128x128 (shapeCast S128x1 v shapeCasts_S128_S128x1) broadcasts_S128x1_S128x128 (ix2 i l) = v (ix1 i) := by
  pointwise

/-- The number of a table row, kept as a word, as a real number. -/
theorem row_word (a : ℕ) (ha : a < 64) (l : Fin 128) :
    ((IntOp.addi (IntOp.muli (BitVec.ofNat 32 a) 128#32) (BitVec.ofNat 32 l.val)).toInt : ℝ) = ((a * 128 + l.val : ℕ) : ℝ) := by
  have hl := l.isLt
  have : (IntOp.addi (IntOp.muli (BitVec.ofNat 32 a) 128#32) (BitVec.ofNat 32 l.val)).toInt = ((a * 128 + l.val : ℕ) : ℤ) := by
    simp only [IntOp.addi, IntOp.muli, BitVec.toInt_eq_toNat_cond, BitVec.toNat_add, BitVec.toNat_mul, BitVec.toNat_ofNat]
    omega
  rw [this]
  simp

/-- A small natural number goes to its own word. -/
theorem word_of_nat (n : ℕ) (hn : n < 8192) : Ideal.fptosi 32 (((n : ℕ) : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  exact BitVec.ofInt_natCast 32 n

/-- Two to the power 24, as the program spells it, is above every row's number. -/
theorem sentinel_above (n : ℕ) (hn : n < 8192) : (((n : ℕ) : ℝ) : EReal) ≤ Ideal.ofBits .f32 0x4B800000#32 := by
  have : Ideal.ofBits .f32 0x4B800000#32 = ((16777216 : ℝ) : EReal) := by
    simp only [Ideal.ofBits, Ideal.ieee]
    simp
    rw [← EReal.coe_mul]
    norm_num
  rw [this, EReal.coe_le_coe_iff]
  have : (n : ℝ) < 8192 := by exact_mod_cast hn
  linarith

/-- The candidates of a row: the table row's number in the lanes that attain the row's least score. -/
theorem candidate_at (val m : FVec Ideal S128x128 .f32) (src : IVec S128x128 32) (i l : Fin 128) :
    select (cmpf (F := Ideal) .oeq val m)
      (sitofp .f32 (addi (muli src (broadcast S128x128 128#32)) (iota .tc S128x128 32 [1] iota_S128x128_d1_w32)))
      (broadcast S128x128 (Scalar.ofBits (F := Ideal) .f32 0x4B800000#32)) (ix2 i l)
      = Scalar.select (Ideal.cmp .oeq (val (ix2 i l)) (m (ix2 i l)))
          ((((IntOp.addi (IntOp.muli (src (ix2 i l)) 128#32) (BitVec.ofNat 32 l.val)).toInt : ℝ) : EReal)) (Ideal.ofBits .f32 0x4B800000#32) := by
  pointwise
  rfl

/-- A row whose lane `l` holds the one least score, met in group `a`, gets the code `128 a + l`. -/
theorem pickCode_at (val : FVec Ideal S128x128 .f32) (src : IVec S128x128 32) (i l : Fin 128) (a : ℕ) (ha : a < 64)
    (hsrc : src (ix2 i l) = BitVec.ofNat 32 a) (hval : ∀ l', l' ≠ l → (val (ix2 i l) : EReal) < val (ix2 i l')) :
    pickCode val src (ix1 i) = BitVec.ofNat 32 (a * 128 + l.val) := by
  have hl := l.isLt
  have hmin : ∀ l', (val (ix2 i l) : EReal) ≤ val (ix2 i l') := fun l' => by
    by_cases e : l' = l
    · rw [e]
    · exact (hval l' e).le
  have hcand : ∀ l', select (cmpf (F := Ideal) .oeq val (broadcastTo S128x128 (shapeCast S128x1
        (multiReduction .minimumf [1] S128 val 0x7F800000#32 reduces_S128x128_S128 (.inl rfl) rfl) shapeCasts_S128_S128x1)
        broadcasts_S128x1_S128x128))
      (sitofp .f32 (addi (muli src (broadcast S128x128 128#32)) (iota .tc S128x128 32 [1] iota_S128x128_d1_w32)))
      (broadcast S128x128 (Scalar.ofBits (F := Ideal) .f32 0x4B800000#32)) (ix2 i l')
      = if l' = l then (((a * 128 + l.val : ℕ) : ℝ) : EReal) else Ideal.ofBits .f32 0x4B800000#32 := by
    intro l'
    rw [candidate_at, over_lanes, least_lane val i l hmin]
    by_cases e : l' = l
    · subst e
      rw [if_pos rfl, hsrc, row_word a ha]
      simp [Scalar.select, Ideal.cmp]
    · rw [if_neg e]
      simp [Scalar.select, Ideal.cmp, (hval l' e).ne']
  unfold pickCode
  refine (congrArg (Ideal.fptosi 32) ((least_lane _ i l fun l' => ?_).trans ((hcand l).trans (if_pos rfl)))).trans (word_of_nat _ (by omega))
  rw [hcand, hcand, if_pos rfl]
  split
  · exact le_rfl
  · exact sentinel_above _ (by omega)

end Cert.CodesIdeal.Search

end
-- ==== Proof.Codes.Tile.lean ====
/-
  The scores of one grid point over the extended reals, entry by entry, and the code of a row whose greatest inner
  product is met at one row of the table only.
-/
module

public import proofs.«01_k».proof.Proof.Codes.Lanes
public import Idealize.ShloMosaic.Lib.WholeRead

@[expose] public section

set_option maxRecDepth 65536

noncomputable section

namespace Cert.CodesIdeal.Search

open Cert.CodesIdeal Cert.CodesIdeal.Gen Idealize.ShloMosaic Idealize.ShloMosaic.TcCoe Idealize.SL.Sem

/-! ## The products, block by block -/

/-- The row of the point's 1024 that row `i` of sub-block `sb` is. -/
def rowAt (sb : Fin 8) (i : Fin 128) : Fin 1024 := ⟨sb.val * 128 + i.val, by omega⟩

/-- The table row that lane `l` of group `n` is. -/
def entryAt (n : ℕ) (h : n < 64) (l : Fin 128) : Fin 8192 := ⟨n * 128 + l.val, by omega⟩

/-- The same row within its quarter of the table. -/
def quarterAt (n : ℕ) (l : Fin 128) : Fin 2048 := ⟨n % 16 * 128 + l.val, by omega⟩

/-- One store of a whole part. -/
def whole {F : FTy → Type} [FloatOps F] (w : Vec F S1024x2048 .f32) : List (View.Piece (Elt F) S1024x2048 .f32) :=
  [⟨Rect.unit (s := S1024x2048) ![0, 0] S1024x2048.size inb_S1024x2048_S1024x2048_0_0, w⟩]

/-- Both offsets are zero. -/
theorem zero_zero : (![0, 0] : Fin S1024x2048.rank → ℕ) = fun _ => 0 := by
  funext a
  fin_cases a <;> rfl

/-- A block read back from a part that was stored whole. -/
theorem read_tile (v : View sig .tc .vmem S1024x2048 .f32) (w : Vec Ideal S1024x2048 .f32) (sb : Fin 8) (n : ℕ) (i l : Fin 128) :
    v.readCov (whole w) (Rect.unit (s := S1024x2048) ![sb.val * 128, n % 16 * 128] S128x128.size (tile_inside sb n)).toLoadRect (ix2 i l)
      = w (ix2 (rowAt sb i) (quarterAt n l)) := by
  unfold whole
  rw [View.readCov_eq_canon_ld _ _ _ (fun y => ⟨_, List.mem_singleton_self _, View.mem_set_unit_zero zero_zero inb_S1024x2048_S1024x2048_0_0 y⟩),
    View.canon_unit_zero zero_zero]
  refine congrArg w (funext fun a => Fin.ext ?_)
  match a with
  | ⟨0, _⟩ =>
    show sb.val * 128 + 1 * i.val = sb.val * 128 + i.val
    omega
  | ⟨1, _⟩ =>
    show n % 16 * 128 + 1 * l.val = n % 16 * 128 + l.val
    omega

/-- Four parts that were stored whole. -/
def stored {F : FTy → Type} [FloatOps F] (v0 v1 v2 v3 : View sig .tc .vmem S1024x2048 .f32) (W : Fin 4 → Vec F S1024x2048 .f32) : Parts F :=
  ⟨v0, v1, v2, v3, whole (W 0), whole (W 1), whole (W 2), whole (W 3)⟩

/-- A block read back from the part that holds its group. -/
theorem tile_at (v0 v1 v2 v3 : View sig .tc .vmem S1024x2048 .f32) (W : Fin 4 → Vec Ideal S1024x2048 .f32) (sb : Fin 8) (n : ℕ)
    (q : Fin 4) (hq : n / 16 = q.val) (i l : Fin 128) :
    (stored v0 v1 v2 v3 W).tile sb n (ix2 i l) = W q (ix2 (rowAt sb i) (quarterAt n l)) := by
  unfold Parts.tile
  rw [hq]
  match q with
  | 0 => exact read_tile v0 (W 0) sb n i l
  | 1 => exact read_tile v1 (W 1) sb n i l
  | 2 => exact read_tile v2 (W 2) sb n i l
  | 3 => exact read_tile v3 (W 3) sb n i l

/-- A part: the products of the doubled rows with a quarter of the table. -/
theorem part_at (x : Vec Ideal S1024x256 .f32) (w : Vec Ideal S2048x256 .f32) (r : Fin 1024) (j : Fin 2048) :
    k0_pay6 x w (ix2 r j) = ∑ d : Fin 256, (x (ix2 r d) * Ideal.ofBits .f32 0x40000000#32) * w (ix2 j d) := by
  pointwise [k0_pay6, k0_pay5, k0_pay3]

/-- The rows' squared norms. -/
theorem rows_at (x : Vec Ideal S1024x256 .f32) (r : Fin 1024) :
    k0_pay4 x (ix1 r) = ∑ d : Fin 256, (x (ix2 r d) : EReal) * x (ix2 r d) := by
  pointwise [k0_pay4, k0_pay3]

/-- A score is the row's squared norm less the product. -/
theorem score_at (rn : FVec Ideal S1024 .f32) (M : Parts Ideal) (sb : Fin 8) (n : ℕ) (i l : Fin 128) :
    scores rn M sb n (ix2 i l) = (rn (ix1 (rowAt sb i)) : EReal) - M.tile sb n (ix2 i l) := by
  unfold scores
  refine congrArg₂ (fun a b : EReal => a - b) ((over_lanes _ i l).trans ?_) rfl
  exact extractStridedSlice_apply _ _ _ _ _ (fun a => by match a with | ⟨0, _⟩ => rfl)

/-- The code of a row: where the products are numbers and the one with table row `k` is above every other, it is `k`. -/
theorem code_at (rn : FVec Ideal S1024 .f32) (M : Parts Ideal) (sb : Fin 8) (i : Fin 128) (s : ℝ) (p : Fin 8192 → ℝ) (k : Fin 8192)
    (hrn : rn (ix1 (rowAt sb i)) = (s : EReal)) (hp : ∀ n (h : n < 64) l, M.tile sb n (ix2 i l) = ((p (entryAt n h l) : ℝ) : EReal))
    (hk : ∀ j, j ≠ k → p j < p k) :
    pickCode (least rn M sb 64) (source rn M sb 64) (ix1 i) = BitVec.ofNat 32 k.val := by
  have hs : ∀ n (h : n < 64) l, scores rn M sb n (ix2 i l) = ((s - p (entryAt n h l) : ℝ) : EReal) := fun n h l => by
    rw [score_at, hrn, hp n h l, EReal.coe_sub]
  have hka : k.val / 128 < 64 := by omega
  let l : Fin 128 := ⟨k.val % 128, by omega⟩
  have hkl : entryAt (k.val / 128) hka l = k := Fin.ext (by show k.val / 128 * 128 + k.val % 128 = k.val; omega)
  have hne : ∀ n (h : n < 64) l', (n ≠ k.val / 128 ∨ l' ≠ l) → ((s - p k : ℝ) : EReal) < ((s - p (entryAt n h l') : ℝ) : EReal) := by
    intro n h l' hn
    rw [EReal.coe_lt_coe_iff]
    have := hk (entryAt n h l') (fun e => by
      have e' : n * 128 + l'.val = k.val := congrArg Fin.val e
      have hl := l'.isLt
      rcases hn with hn | hn
      · exact hn (by omega)
      · exact hn (Fin.ext (by show l'.val = k.val % 128; omega)))
    linarith
  obtain ⟨h1, h2⟩ := lane_first rn M sb (ix2 i l) (k.val / 128) (s - p k) (by rw [hs _ hka, hkl]) 64 hka
    (fun n h hn => by rw [hs n h]; exact hne n h l (.inl hn))
  refine (pickCode_at _ _ i l (k.val / 128) hka h2 fun l' hl' => ?_).trans (congrArg (BitVec.ofNat 32) (congrArg Fin.val hkl))
  rw [h1]
  exact least_above rn M sb (ix2 i l') (s - p k) 64 (fun n h => by rw [hs n h]; exact hne n h l' (.inr hl')) 64 le_rfl

end Cert.CodesIdeal.Search

end
-- ==== Proof.Codes.Point.lean ====
/-
  What one grid point of the search writes, read back: the code of each of its rows.
-/
module

public import proofs.«01_k».proof.Proof.Codes.Tile

@[expose] public section

set_option maxRecDepth 65536

noncomputable section

namespace Cert.CodesIdeal.Search

open Cert.CodesIdeal Cert.CodesIdeal.Gen Idealize.ShloMosaic Idealize.ShloMosaic.TcCoe Idealize.SL.Sem

section Parts

variable {F : FTy → Type} [FloatOps F]

/-- The four parts of the products that a run of the body computes: the rows with each quarter of the table. -/
def products (arg1 : Memref sig .tc .vmem S1024x256 .f32) (harg1 : arg1.IsWhole) (arg2 : Memref sig .tc .vmem S8192x256 .f32) (harg2 : arg2.IsWhole)
    (x0 : Vec F S1024x256 .f32) (x1 : Vec F S8192x256 .f32) : Fin 4 → Vec F S1024x2048 .f32 := fun q =>
  match q with
  | 0 => k0_pay6 (rowsOf arg1 harg1 x0) (View.readAt (Elt F) arg2.view (Rect.unit (s := S8192x256) ![0, 0] S2048x256.size inb_S8192x256_S2048x256_0_0).toLoadRect (harg2.unread x1))
  | 1 => k0_pay7 (rowsOf arg1 harg1 x0) (View.readAt (Elt F) arg2.view (Rect.unit (s := S8192x256) ![2048, 0] S2048x256.size inb_S8192x256_S2048x256_2048_0).toLoadRect (harg2.unread x1))
  | 2 => k0_pay8 (rowsOf arg1 harg1 x0) (View.readAt (Elt F) arg2.view (Rect.unit (s := S8192x256) ![4096, 0] S2048x256.size inb_S8192x256_S2048x256_4096_0).toLoadRect (harg2.unread x1))
  | 3 => k0_pay9 (rowsOf arg1 harg1 x0) (View.readAt (Elt F) arg2.view (Rect.unit (s := S8192x256) ![6144, 0] S2048x256.size inb_S8192x256_S2048x256_6144_0).toLoadRect (harg2.unread x1))

/-- They are what the run stored, each whole. -/
theorem parts_eq (c : Dev nD) (i : grid0.Coords) (arg1 : Memref sig .tc .vmem S1024x256 .f32) (harg1 : arg1.IsWhole) (arg2 : Memref sig .tc .vmem S8192x256 .f32) (harg2 : arg2.IsWhole)
    (arg3 : Memref sig .tc .vmem S1024 .i32) (harg3 : arg3.IsWhole) (arg4 : Memref sig .tc .smem S1x1x1 .f32) (harg4 : arg4.IsWhole) (arg5 : Memref sig .tc .vmem S1024x2048 .f32) (harg5 : arg5.IsWhole)
    (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole)
    (x0 : Vec F S1024x256 .f32) (x1 : Vec F S8192x256 .f32) :
    (⟨arg5.view, arg6.view, arg7.view, arg8.view,
            (kernelRun0_A c i arg1 harg1 arg2 harg2 arg3 harg3 arg4 harg4 arg5 harg5 arg6 harg6 arg7 harg7 arg8 harg8 x0 x1).2.2.1,
            (kernelRun0_A c i arg1 harg1 arg2 harg2 arg3 harg3 arg4 harg4 arg5 harg5 arg6 harg6 arg7 harg7 arg8 harg8 x0 x1).2.2.2.1,
            (kernelRun0_A c i arg1 harg1 arg2 harg2 arg3 harg3 arg4 harg4 arg5 harg5 arg6 harg6 arg7 harg7 arg8 harg8 x0 x1).2.2.2.2.1,
            (kernelRun0_A c i arg1 harg1 arg2 harg2 arg3 harg3 arg4 harg4 arg5 harg5 arg6 harg6 arg7 harg7 arg8 harg8 x0 x1).2.2.2.2.2.1⟩ : Parts F)
      = stored arg5.view arg6.view arg7.view arg8.view (products arg1 harg1 arg2 harg2 x0 x1) := by
  sl_kernel_rfl

end Parts

/-- The rows, read back as they were staged. -/
theorem rowsOf_at (arg1 : Memref sig .tc .vmem S1024x256 .f32) (harg1 : arg1.IsWhole) (x0 : Vec Ideal S1024x256 .f32) (r : Fin 1024) (d : Fin 256) :
    rowsOf arg1 harg1 x0 (ix2 r d) = x0 (ix2 r d) := by
  unfold rowsOf
  rw [Memref.IsWhole.readAt_unread]
  refine congrArg x0 (funext fun a => Fin.ext ?_)
  match a with
  | ⟨0, _⟩ =>
    show 0 + 1 * r.val = r.val
    omega
  | ⟨1, _⟩ =>
    show 0 + 1 * d.val = d.val
    omega

/-- A quarter of the table, read back as the table was staged. -/
theorem quarter_at (arg2 : Memref sig .tc .vmem S8192x256 .f32) (harg2 : arg2.IsWhole) (x1 : Vec Ideal S8192x256 .f32) (o : ℕ)
    (inb : ∀ a, (![o, 0] : Fin 2 → ℕ) a + S2048x256.size a ≤ S8192x256.size a) (j : Fin 2048) (d : Fin 256) (k : Fin 8192) (hk : k.val = o + j.val) :
    View.readAt (Elt Ideal) arg2.view (Rect.unit (s := S8192x256) ![o, 0] S2048x256.size inb).toLoadRect (harg2.unread x1) (ix2 j d) = x1 (ix2 k d) := by
  rw [Memref.IsWhole.readAt_unread]
  refine congrArg x1 (funext fun a => Fin.ext ?_)
  match a with
  | ⟨0, _⟩ =>
    show o + 1 * j.val = k.val
    omega
  | ⟨1, _⟩ =>
    show 0 + 1 * d.val = d.val
    omega

/-- The product of a row of the point with a row of the table. -/
def prodAt (x0 : Vec Ideal S1024x256 .f32) (x1 : Vec Ideal S8192x256 .f32) (r : Fin 1024) (k : Fin 8192) : EReal :=
  ∑ d : Fin 256, (x0 (ix2 r d) * Ideal.ofBits .f32 0x40000000#32) * x1 (ix2 k d)

/-- An entry of a part, where its operands' rows are those of the point and of the table. -/
theorem part_prod (x y : Vec Ideal S1024x256 .f32) (x1 : Vec Ideal S8192x256 .f32) (w : Vec Ideal S2048x256 .f32) (r : Fin 1024) (j : Fin 2048) (k : Fin 8192)
    (hx : ∀ d, y (ix2 r d) = x (ix2 r d)) (hw : ∀ d, w (ix2 j d) = x1 (ix2 k d)) :
    k0_pay6 y w (ix2 r j) = prodAt x x1 r k := by
  rw [part_at]
  exact Finset.sum_congr rfl fun d _ => by rw [hx, hw]

/-- One part holds the products of its quarter. -/
theorem quarter_prod (arg1 : Memref sig .tc .vmem S1024x256 .f32) (harg1 : arg1.IsWhole) (arg2 : Memref sig .tc .vmem S8192x256 .f32) (harg2 : arg2.IsWhole)
    (x0 : Vec Ideal S1024x256 .f32) (x1 : Vec Ideal S8192x256 .f32) (o : ℕ) (inb : ∀ a, (![o, 0] : Fin 2 → ℕ) a + S2048x256.size a ≤ S8192x256.size a)
    (r : Fin 1024) (j : Fin 2048) (k : Fin 8192) (hk : k.val = o + j.val) :
    k0_pay6 (rowsOf arg1 harg1 x0) (View.readAt (Elt Ideal) arg2.view (Rect.unit (s := S8192x256) ![o, 0] S2048x256.size inb).toLoadRect (harg2.unread x1)) (ix2 r j)
      = prodAt x0 x1 r k :=
  part_prod x0 _ x1 _ r j k (rowsOf_at arg1 harg1 x0 r) fun d => quarter_at arg2 harg2 x1 o inb j d k hk

/-- The second part is computed as the first. -/
theorem pay7_eq : (k0_pay7 : Vec Ideal S1024x256 .f32 → Vec Ideal S2048x256 .f32 → FVec Ideal S1024x2048 .f32) = k0_pay6 := rfl
/-- So is the third. -/
theorem pay8_eq : (k0_pay8 : Vec Ideal S1024x256 .f32 → Vec Ideal S2048x256 .f32 → FVec Ideal S1024x2048 .f32) = k0_pay6 := rfl
/-- So is the fourth. -/
theorem pay9_eq : (k0_pay9 : Vec Ideal S1024x256 .f32 → Vec Ideal S2048x256 .f32 → FVec Ideal S1024x2048 .f32) = k0_pay6 := rfl

section Quarters

variable (arg1 : Memref sig .tc .vmem S1024x256 .f32) (harg1 : arg1.IsWhole) (arg2 : Memref sig .tc .vmem S8192x256 .f32) (harg2 : arg2.IsWhole)
  (x0 : Vec Ideal S1024x256 .f32) (x1 : Vec Ideal S8192x256 .f32)

/-- The first part is the rows with the table's first quarter. -/
theorem products_0 : products arg1 harg1 arg2 harg2 x0 x1 0 = k0_pay6 (rowsOf arg1 harg1 x0) (View.readAt (Elt Ideal) arg2.view
    (Rect.unit (s := S8192x256) ![0, 0] S2048x256.size inb_S8192x256_S2048x256_0_0).toLoadRect (harg2.unread x1)) := by
  show k0_pay6 _ _ = _
  rfl

/-- The second, with the second. -/
theorem products_1 : products arg1 harg1 arg2 harg2 x0 x1 1 = k0_pay6 (rowsOf arg1 harg1 x0) (View.readAt (Elt Ideal) arg2.view
    (Rect.unit (s := S8192x256) ![2048, 0] S2048x256.size inb_S8192x256_S2048x256_2048_0).toLoadRect (harg2.unread x1)) := by
  show k0_pay7 _ _ = _
  rw [pay7_eq]

/-- The third, with the third. -/
theorem products_2 : products arg1 harg1 arg2 harg2 x0 x1 2 = k0_pay6 (rowsOf arg1 harg1 x0) (View.readAt (Elt Ideal) arg2.view
    (Rect.unit (s := S8192x256) ![4096, 0] S2048x256.size inb_S8192x256_S2048x256_4096_0).toLoadRect (harg2.unread x1)) := by
  show k0_pay8 _ _ = _
  rw [pay8_eq]

/-- The fourth, with the fourth. -/
theorem products_3 : products arg1 harg1 arg2 harg2 x0 x1 3 = k0_pay6 (rowsOf arg1 harg1 x0) (View.readAt (Elt Ideal) arg2.view
    (Rect.unit (s := S8192x256) ![6144, 0] S2048x256.size inb_S8192x256_S2048x256_6144_0).toLoadRect (harg2.unread x1)) := by
  show k0_pay9 _ _ = _
  rw [pay9_eq]

/-- Each part holds the products of its quarter. -/
theorem products_at (q : Fin 4) (r : Fin 1024) (j : Fin 2048) (k : Fin 8192) (hk : k.val = q.val * 2048 + j.val) :
    products arg1 harg1 arg2 harg2 x0 x1 q (ix2 r j) = prodAt x0 x1 r k := by
  have hq : q = 0 ∨ q = 1 ∨ q = 2 ∨ q = 3 := by omega
  rcases hq with rfl | rfl | rfl | rfl
  · rw [products_0]
    exact quarter_prod arg1 harg1 arg2 harg2 x0 x1 0 _ r j k (hk.trans (by norm_num))
  · rw [products_1]
    exact quarter_prod arg1 harg1 arg2 harg2 x0 x1 2048 _ r j k (hk.trans (by norm_num))
  · rw [products_2]
    exact quarter_prod arg1 harg1 arg2 harg2 x0 x1 4096 _ r j k (hk.trans (by norm_num))
  · rw [products_3]
    exact quarter_prod arg1 harg1 arg2 harg2 x0 x1 6144 _ r j k (hk.trans (by norm_num))

end Quarters

/-- The eight sub-blocks' codes, read back through any view: each row's is its own sub-block's. -/
theorem read_pieces (v : View sig .tc .vmem S1024 .i32) (f : v.ty.Contents (Elt Ideal)) (rn : FVec Ideal S1024 .f32) (M : Parts Ideal) (sb : Fin 8) (i : Fin 128) :
    v.read (Elt Ideal) (v.writes (Elt Ideal) f ([7, 6, 5, 4, 3, 2, 1, 0].map (piece rn M))) (ix1 (rowAt sb i))
      = pickCode (least rn M sb 64) (source rn M sb 64) (ix1 i) := by
  let G : S1024.Idx → BitVec 32 := fun y =>
    pickCode (least rn M ⟨(y 0).val / 128, by have : (y 0).val < 1024 := (y 0).isLt; omega⟩ 64)
      (source rn M ⟨(y 0).val / 128, by have : (y 0).val < 1024 := (y 0).isLt; omega⟩ 64) (ix1 ⟨(y 0).val % 128, Nat.mod_lt _ (by decide)⟩)
  have hG : ∀ (y : S1024.Idx) (sb : Fin 8) (x : S128.Idx), (y 0).val = sb.val * 128 + (x 0).val →
      G y = pickCode (least rn M sb 64) (source rn M sb 64) x := by
    intro y sb x h
    have hx : (x 0).val < 128 := (x 0).isLt
    have e1 : (⟨(y 0).val / 128, by have : (y 0).val < 1024 := (y 0).isLt; omega⟩ : Fin 8) = sb := Fin.ext (by show (y 0).val / 128 = sb.val; omega)
    have e2 : (ix1 ⟨(y 0).val % 128, Nat.mod_lt _ (by decide)⟩ : S128.Idx) = x := by
      funext a
      match a with
      | ⟨0, _⟩ => exact Fin.ext (by show (y 0).val % 128 = (x 0).val; omega)
    show pickCode (least rn M _ 64) (source rn M _ 64) _ = _
    rw [e1, e2]
  refine (View.read_writes_apply_of_pieces v f G _ ?_ _ ?_).trans (hG _ sb (ix1 i) rfl)
  · intro p hp x
    obtain ⟨b, _, rfl⟩ := List.mem_map.1 hp
    refine (hG _ b x ?_).symm
    show b.val * 128 + 1 * (x 0).val = b.val * 128 + (x 0).val
    omega
  · refine ⟨piece rn M sb, List.mem_map.2 ⟨sb, ?_, rfl⟩, ?_⟩
    · fin_cases sb <;> simp
    · refine (Rect.mem_set_unit (inb := rows_inside sb)).2 fun a => ?_
      match a with
      | ⟨0, _⟩ =>
        show sb.val * 128 ≤ sb.val * 128 + i.val ∧ sb.val * 128 + i.val < sb.val * 128 + 128
        omega

end Cert.CodesIdeal.Search

end
-- ==== Proof.Codes.Sums.lean ====
/-
  The second array that a grid point of the search writes: one number, the sum of its rows' least scores.
-/
module

public import proofs.«01_k».proof.Proof.Codes.Point

@[expose] public section

set_option maxRecDepth 65536

noncomputable section

namespace Cert.CodesIdeal.Search

open Cert.CodesIdeal Cert.CodesIdeal.Gen Idealize.ShloMosaic Idealize.ShloMosaic.TcCoe Idealize.SL.Sem

section Stored

variable {F : FTy → Type} [FloatOps F]

/-- The least score of each row of a sub-block, from its lanes'. -/
def rowLeast (val : FVec F S128x128 .f32) : FVec F S128 .f32 :=
  multiReduction .minimumf [1] S128 val 0x7F800000#32 reduces_S128x128_S128 (.inl rfl) rfl

/-- The sum of a sub-block's 128 numbers. -/
def blockSum (v : FVec F S128 .f32) : F .f32 :=
  extractAt ![0, 0] (shapeCast S1x1 (multiReduction .add [1] S1 (shapeCast S1x128 v shapeCasts_S128_S1x128)
    0x00000000#32 reduces_S1x128_S1 (.inl rfl) rfl) shapeCasts_S1_S1x1) inpos_S1x1_p0_0

/-- The sum of the eight sub-blocks' sums, one after the other. -/
def total (rn : FVec F S1024 .f32) (M : Parts F) : F .f32 :=
  ([0, 1, 2, 3, 4, 5, 6, 7] : List (Fin 8)).foldl (fun a sb => Scalar.addf a (blockSum (rowLeast (least rn M sb 64))))
    (Scalar.ofBits .f32 0x00000000#32)

/-- A run of the body stores that sum, and nothing else, in the sums' buffer. -/
theorem sums_eq (c : Dev nD) (i : grid0.Coords) (arg1 : Memref sig .tc .vmem S1024x256 .f32) (harg1 : arg1.IsWhole) (arg2 : Memref sig .tc .vmem S8192x256 .f32) (harg2 : arg2.IsWhole)
    (arg3 : Memref sig .tc .vmem S1024 .i32) (harg3 : arg3.IsWhole) (arg4 : Memref sig .tc .smem S1x1x1 .f32) (harg4 : arg4.IsWhole) (arg5 : Memref sig .tc .vmem S1024x2048 .f32) (harg5 : arg5.IsWhole)
    (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole)
    (x0 : Vec F S1024x256 .f32) (x1 : Vec F S8192x256 .f32) :
    (kernelRun0_A c i arg1 harg1 arg2 harg2 arg3 harg3 arg4 harg4 arg5 harg5 arg6 harg6 arg7 harg7 arg8 harg8 x0 x1).2.1
      = [⟨Rect.unit (s := S1x1x1) ![0, 0, 0] S1x1x1.size inb_S1x1x1_S1x1x1_0_0_0, fun _ => total (k0_pay4 (rowsOf arg1 harg1 x0))
          ⟨arg5.view, arg6.view, arg7.view, arg8.view,
            (kernelRun0_A c i arg1 harg1 arg2 harg2 arg3 harg3 arg4 harg4 arg5 harg5 arg6 harg6 arg7 harg7 arg8 harg8 x0 x1).2.2.1,
            (kernelRun0_A c i arg1 harg1 arg2 harg2 arg3 harg3 arg4 harg4 arg5 harg5 arg6 harg6 arg7 harg7 arg8 harg8 x0 x1).2.2.2.1,
            (kernelRun0_A c i arg1 harg1 arg2 harg2 arg3 harg3 arg4 harg4 arg5 harg5 arg6 harg6 arg7 harg7 arg8 harg8 x0 x1).2.2.2.2.1,
            (kernelRun0_A c i arg1 harg1 arg2 harg2 arg3 harg3 arg4 harg4 arg5 harg5 arg6 harg6 arg7 harg7 arg8 harg8 x0 x1).2.2.2.2.2.1⟩⟩] := by
  sl_kernel_rfl

end Stored

/-! ## Over the extended reals -/

/-- A number is at most a reduction by the lesser where it is at most every entry. -/
theorem le_reduce_iff {s t : Shape} {axes : List (Fin s.rank)} {ι : Type} (v : FVec Ideal s .f32) (h : s.Reduces axes t) (hφ : FKind.Formats .f32)
    (hacc : (0x7F800000#32 : BitVec 32) = FKind.minimumf.neutral .f32 hφ) (j : t.Idx) (e : ι → s.Idx) (he : ∀ a, h.drop (e a) = j)
    (hs : ∀ i, h.drop i = j → ∃ a, i = e a) (c : EReal) :
    c ≤ multiReduction .minimumf axes t v 0x7F800000#32 h hφ hacc j ↔ ∀ a, c ≤ (v (e a) : EReal) := by
  rw [multiReduction_minimumf_eq_fold]
  refine (Finset.le_fold_min _).trans ⟨fun H a => H.2 _ (Finset.mem_filter.2 ⟨Finset.mem_univ _, he a⟩), fun H => ⟨?_, fun i hj => ?_⟩⟩
  · exact le_top.trans inf_top.ge
  · obtain ⟨a, rfl⟩ := hs i (Finset.mem_filter.1 hj).2
    exact H a

/-- A number is at most a lane's least score where it is at most its score in every group. -/
theorem le_least_iff (rn : FVec Ideal S1024 .f32) (M : Parts Ideal) (sb : Fin 8) (x : S128x128.Idx) (c : EReal) (N : ℕ) :
    c ≤ (least rn M sb N x : EReal) ↔ ∀ n, n < N → c ≤ (scores rn M sb n x : EReal) := by
  induction N with
  | zero =>
    rw [least_zero]
    exact ⟨fun _ n h => absurd h (Nat.not_lt_zero n), fun _ => le_top⟩
  | succ N ih =>
    rw [least_succ, _root_.le_min_iff, ih]
    exact ⟨fun H n hn => (Nat.lt_succ_iff_lt_or_eq.1 hn).elim (H.1 n) fun e => e ▸ H.2,
      fun H => ⟨fun n hn => H n (by omega), H N (by omega)⟩⟩

/-- A number is at most a row's least score where it is at most the row's score with every row of the table. -/
theorem le_rowLeast_iff (rn : FVec Ideal S1024 .f32) (M : Parts Ideal) (sb : Fin 8) (i : Fin 128) (s : EReal) (p : Fin 8192 → EReal)
    (hrn : rn (ix1 (rowAt sb i)) = s) (hp : ∀ n (h : n < 64) l, M.tile sb n (ix2 i l) = p (entryAt n h l)) (c : EReal) :
    c ≤ (rowLeast (least rn M sb 64) (ix1 i) : EReal) ↔ ∀ j, c ≤ s - p j := by
  unfold rowLeast
  refine (le_reduce_iff _ _ _ _ (ix1 i) (fun l : Fin 128 => ix2 i l) (fun l => by
      funext a; apply Fin.ext; match a with | ⟨0, _⟩ => rfl) (fun j hj => ⟨j 1, by
        funext a; apply Fin.ext
        match a with
        | ⟨0, _⟩ => exact congrArg Fin.val (congrFun hj 0)
        | ⟨1, _⟩ => rfl⟩) c).trans ?_
  have hs : ∀ n (h : n < 64) l, scores rn M sb n (ix2 i l) = s - p (entryAt n h l) := fun n h l => by
    rw [score_at, hrn, hp n h l]
  constructor
  · intro H j
    have hj : j.val / 128 < 64 := by omega
    have := (le_least_iff rn M sb _ c 64).1 (H ⟨j.val % 128, by omega⟩) _ hj
    rw [hs _ hj] at this
    refine this.trans_eq (congrArg (fun k => s - p k) (Fin.ext ?_))
    show j.val / 128 * 128 + j.val % 128 = j.val
    omega
  · intro H l
    refine (le_least_iff rn M sb _ c 64).2 fun n hn => ?_
    rw [hs n hn]
    exact H _

/-- A sub-block's sum is the sum of its entries. -/
theorem blockSum_at (v : FVec Ideal S128 .f32) : blockSum v = ∑ i : Fin 128, (v (ix1 i) : EReal) := by
  unfold blockSum
  pointwise

/-- The point's sum, over the sub-blocks and their rows. -/
theorem total_at (rn : FVec Ideal S1024 .f32) (M : Parts Ideal) :
    total rn M = ∑ sb : Fin 8, ∑ i : Fin 128, (rowLeast (least rn M sb 64) (ix1 i) : EReal) := by
  have h0 : Ideal.ofBits .f32 0x00000000#32 = 0 := by simp [Ideal.ofBits, Ideal.ieee]
  have h : ∀ g : Fin 8 → EReal, ([0, 1, 2, 3, 4, 5, 6, 7] : List (Fin 8)).foldl (fun a sb => a + g sb) (Ideal.ofBits .f32 0x00000000#32) = ∑ sb, g sb := by
    intro g
    rw [h0]
    simp [Fin.sum_univ_succ, add_assoc]
  refine Eq.trans (h fun sb => blockSum (rowLeast (least rn M sb 64))) (Finset.sum_congr rfl fun sb _ => blockSum_at _)

end Cert.CodesIdeal.Search

end
-- ==== Proof.Codes.Lead.lean ====
/-
  The rows that the mask keeps: a row of real numbers whose best product leads every other by more than the spread of
  the table's squared norms. What follows for the scores and for the distances, and the first greatest entry of a row.
-/
module

public import proofs.«01_k».proof.Proof.Gather.Equation
public import proofs.«01_k».proof.Proof.Gen.On_clear_rows
public import Idealize.ShloMosaic.Lib.ValueIdx
public import Idealize.ShloMosaic.Lib.ReduceAll
public import Idealize.ShloMosaic.Lib.Pipeline.Value
public import Idealize.ShloMosaic.Lib.Pointwise

@[expose] public section

noncomputable section

namespace Cert.Lead

open Idealize.ShloMosaic

/-- The shapes of the rows, of the table, and of the products of every row with every table row. -/
abbrev Sf : Shape := ⟨2, ![16384, 256]⟩
abbrev Sw : Shape := ⟨2, ![8192, 256]⟩
abbrev Sp : Shape := ⟨2, ![16384, 8192]⟩

/-- The number two, as the programs spell it. -/
def two : EReal := Ideal.ofBits .f32 0x40000000#32

/-- Twice the inner product of row `r` of `f` with row `j` of the table. -/
def prod (f : FVec Ideal Sf .f32) (w : FVec Ideal Sw .f32) (r : Fin 16384) (j : Fin 8192) : EReal :=
  ∑ d : Fin 256, (two * f (ix2 r d)) * w (ix2 j d)

/-- The squared norm of row `r`. -/
def norm (f : FVec Ideal Sf .f32) (r : Fin 16384) : EReal := ∑ d : Fin 256, f (ix2 r d) * f (ix2 r d)

/-- The squared norm of row `j` of the table. -/
def wnorm (w : FVec Ideal Sw .f32) (j : Fin 8192) : EReal := ∑ d : Fin 256, w (ix2 j d) * w (ix2 j d)

/-- The least over the table of a row's squared norm less its doubled inner product. -/
def low (f : FVec Ideal Sf .f32) (w : FVec Ideal Sw .f32) (r : Fin 16384) : EReal := ⨅ j : Fin 8192, norm f r - prod f w r j

/-- The row of the 16384 that row `y` of the `t`-th 1024 is. -/
def rowOf (t : Fin 16) (y : Fin 1024) : Fin 16384 := ⟨t.val * 1024 + y.val, by omega⟩

/-- The sum of the least scores of the `t`-th 1024 rows. -/
def lowSum (f : FVec Ideal Sf .f32) (w : FVec Ideal Sw .f32) (t : Fin 16) : EReal := ∑ y : Fin 1024, low f w (rowOf t y)

/-- The word for two is a real number. -/
theorem two_real : ∃ t : ℝ, two = t := by
  refine ⟨EReal.toReal two, ?_⟩
  simp only [two, Ideal.ofBits, Ideal.ieee]
  simp
  rw [← EReal.coe_mul, EReal.toReal_coe]

/-- A finite sum of products of real numbers is a real number. -/
theorem sum_real {n : ℕ} (g : Fin n → EReal) (h : ∀ i, ∃ t : ℝ, g i = t) : ∃ t : ℝ, ∑ i, g i = t := by
  choose t ht using h
  exact ⟨∑ i, t i, by simp only [ht]; exact (map_sum (⟨⟨Real.toEReal, rfl⟩, EReal.coe_add⟩ : ℝ →+ EReal) t Finset.univ).symm⟩

/-- A product of real numbers is one. -/
theorem mul_real {x y : EReal} (hx : ∃ t : ℝ, x = t) (hy : ∃ t : ℝ, y = t) : ∃ t : ℝ, x * y = t := by
  obtain ⟨a, rfl⟩ := hx
  obtain ⟨b, rfl⟩ := hy
  exact ⟨a * b, (EReal.coe_mul a b).symm⟩

/-- A row that leads: its numbers and the table's are real, and one product exceeds every other by more than the
    table's squared norms differ. -/
structure Leads (f : FVec Ideal Sf .f32) (w : FVec Ideal Sw .f32) (r : Fin 16384) (k : Fin 8192) (s : ℝ) (p n : Fin 8192 → ℝ) : Prop where
  row : norm f r = s
  prods : ∀ j, prod f w r j = p j
  norms : ∀ j, wnorm w j = n j
  lead : ∀ j, j ≠ k → p j < p k ∧ n k - n j < p k - p j

/-- A word that names an index, read back. -/
theorem word_inj {a b : Fin 8192} (h : BitVec.ofNat 32 a.val = BitVec.ofNat 32 b.val) : a = b := by
  have := congrArg BitVec.toNat h
  simp only [BitVec.toNat_ofNat] at this
  apply Fin.ext
  omega

section Finite

variable {ι : Type} [Fintype ι] [Nonempty ι]

/-- A reduction by the greater over entries that are real numbers is the greatest of them. -/
theorem host_max {s t u : Shape} {axes : List (Fin s.rank)} (x : FVec Ideal s .f32) (init : FVec Ideal u .f32) (h : s.ReducesTo axes t)
    (hu : 0 < u.numel) (j : t.Idx) (p : ι → ℝ) (e : ι → s.Idx) (he : ∀ a, h.drop (e a) = j) (hs : ∀ i, h.drop i = j → ∃ a, i = e a)
    (hx : ∀ a, x (e a) = ((p a : ℝ) : EReal)) (hi : init (Shape.Idx.first hu) = (⊥ : EReal)) :
    ∃ m, (∀ a, p a ≤ p m) ∧ Host.reduce FloatOps.maximumf x init h hu j = ((p m : ℝ) : EReal) := by
  obtain ⟨m, hm⟩ := Finite.exists_max p
  refine ⟨m, hm, ?_⟩
  rw [Host.reduce_eq_fold]
  refine le_antisymm (Finset.fold_max_le _ |>.2 ⟨hi ▸ bot_le, fun i hj => ?_⟩)
    (Finset.le_fold_max _ |>.2 (.inr ⟨e m, Finset.mem_filter.2 ⟨Finset.mem_univ _, he m⟩, (hx m).ge⟩))
  obtain ⟨a, rfl⟩ := hs i (Finset.mem_filter.1 hj).2
  rw [hx a]
  exact EReal.coe_le_coe_iff.2 (hm a)

/-- A reduction by the lesser over entries that are real numbers is the least of them. -/
theorem host_min {s t u : Shape} {axes : List (Fin s.rank)} (x : FVec Ideal s .f32) (init : FVec Ideal u .f32) (h : s.ReducesTo axes t)
    (hu : 0 < u.numel) (j : t.Idx) (p : ι → ℝ) (e : ι → s.Idx) (he : ∀ a, h.drop (e a) = j) (hs : ∀ i, h.drop i = j → ∃ a, i = e a)
    (hx : ∀ a, x (e a) = ((p a : ℝ) : EReal)) (hi : init (Shape.Idx.first hu) = (⊤ : EReal)) :
    ∃ m, (∀ a, p m ≤ p a) ∧ Host.reduce FloatOps.minimumf x init h hu j = ((p m : ℝ) : EReal) := by
  obtain ⟨m, hm⟩ := Finite.exists_min p
  refine ⟨m, hm, ?_⟩
  rw [Host.reduce_eq_fold]
  refine le_antisymm (Finset.fold_min_le _ |>.2 (.inr ⟨e m, Finset.mem_filter.2 ⟨Finset.mem_univ _, he m⟩, (hx m).le⟩))
    (Finset.le_fold_min _ |>.2 ⟨hi ▸ le_top, fun i hj => ?_⟩)
  obtain ⟨a, rfl⟩ := hs i (Finset.mem_filter.1 hj).2
  rw [hx a]
  exact EReal.coe_le_coe_iff.2 (hm a)

/-- An `or` of two bits is one: the words agree, or the comparison holds. -/
theorem or_one {a b : BitVec 32} {q : Prop} [Decidable q]
    (h : IntOp.ori (IntOp.cmpi .eq a b) (BitVec.ofBool (decide q)) = 1#1) : a = b ∨ q := by
  by_cases hq : q
  · exact .inr hq
  by_cases hab : a = b
  · exact .inl hab
  exfalso
  have e : (a == b) = false := by simpa using hab
  simp [IntOp.ori, IntOp.cmpi, hq, e] at h

/-- Real products, whose mask holds at every row of the table, have a greatest that leads them. -/
theorem lead_of_mask (word : ι → BitVec 32) (inj : Function.Injective word) (p n : ι → ℝ) (v : BitVec 32) (k a b : ι)
    (ha : ∀ j, n j ≤ n a) (hb : ∀ j, n b ≤ n j)
    (h : ∀ j : ι, IntOp.ori (IntOp.cmpi .eq (word j) v)
      (Ideal.cmp .ogt (((p k : ℝ) : EReal) - ((p j : ℝ) : EReal)) (((n a : ℝ) : EReal) - ((n b : ℝ) : EReal))) = 1#1) :
    ∀ j, j ≠ k → p j < p k ∧ n k - n j < p k - p j := by
  have h1 : ∀ j : ι, word j = v ∨ n a - n b < p k - p j := fun j =>
    (or_one (h j)).imp_right fun e => by
      rw [← EReal.coe_sub, ← EReal.coe_sub] at e
      exact EReal.coe_lt_coe_iff.1 e
  have hab := hb a
  have hkw := (h1 k).resolve_right (by linarith)
  intro j hj
  have hl := (h1 j).resolve_left fun e => hj (inj (e.trans hkw.symm))
  have := ha k
  have := hb j
  exact ⟨by linarith, by linarith⟩

end Finite

/-- A vector over the rows, spread over the table's rows. -/
theorem spread_row {α : Type} (v : Cert.On_clear_rows.S16384.Idx → α) (r : Fin 16384) (j : Fin 8192) :
    broadcastInDim Cert.On_clear_rows.S16384x8192 ![0, 1] Cert.On_clear_rows.Facts.bcast_S16384x1_S16384x8192_0_1
      (broadcastInDim Cert.On_clear_rows.S16384x1 ![0] Cert.On_clear_rows.Facts.bcast_S16384_S16384x1_0 v) (ix2 r j) = v (ix1 r) := by
  unfold broadcastInDim
  refine congrArg v (funext fun a => Fin.ext ?_)
  match a with
  | ⟨0, _⟩ => rfl

/-- One number, spread over the products. -/
theorem spread_all {α : Type} (v : Cert.On_clear_rows.S_.Idx → α) (r : Fin 16384) (j : Fin 8192) :
    broadcastInDim Cert.On_clear_rows.S16384x8192 ![] Cert.On_clear_rows.Facts.bcast_S_S16384x8192 v (ix2 r j) = v (fun a => a.elim0) := by
  unfold broadcastInDim
  exact congrArg v (funext fun a => a.elim0)

/-- The mask's test at a row and a table row: it is the best one, or it trails by more than the spread. -/
theorem ori_at (r : Fin 16384) (j : Fin 8192) (A B : IVec Cert.On_clear_rows.S16384x8192 32) (C D E : FVec Ideal Cert.On_clear_rows.S16384x8192 .f32) :
    ori (cmpi .eq A B) (cmpf .ogt (subf C D) E) (ix2 r j)
      = IntOp.ori (IntOp.cmpi .eq (A (ix2 r j)) (B (ix2 r j))) (Ideal.cmp .ogt (C (ix2 r j) - D (ix2 r j)) (E (ix2 r j))) := rfl

/-- The compared words and numbers of the mask, at a product. -/
theorem mask_word (A : IVec Cert.On_clear_rows.S16384 32) (M : FVec Ideal Cert.On_clear_rows.S16384 .f32) (D : FVec Ideal Cert.On_clear_rows.S16384x8192 .f32)
    (G L : FVec Ideal Cert.On_clear_rows.S_ .f32) (r : Fin 16384) (j : Fin 8192) :
    ori (cmpi .eq (iotaInDim Cert.On_clear_rows.S16384x8192 32 1)
        (broadcastInDim Cert.On_clear_rows.S16384x8192 ![0, 1] Cert.On_clear_rows.Facts.bcast_S16384x1_S16384x8192_0_1
          (broadcastInDim Cert.On_clear_rows.S16384x1 ![0] Cert.On_clear_rows.Facts.bcast_S16384_S16384x1_0 A)))
      (cmpf .ogt (subf (broadcastInDim Cert.On_clear_rows.S16384x8192 ![0, 1] Cert.On_clear_rows.Facts.bcast_S16384x1_S16384x8192_0_1
          (broadcastInDim Cert.On_clear_rows.S16384x1 ![0] Cert.On_clear_rows.Facts.bcast_S16384_S16384x1_0 M)) D)
        (broadcastInDim Cert.On_clear_rows.S16384x8192 ![] Cert.On_clear_rows.Facts.bcast_S_S16384x8192 (subf G L))) (ix2 r j)
      = IntOp.ori (IntOp.cmpi .eq (BitVec.ofNat 32 j.val) (A (ix1 r)))
          (Ideal.cmp .ogt (M (ix1 r) - D (ix2 r j)) (G (fun a => a.elim0) - L (fun a => a.elim0))) := by
  rw [ori_at, spread_row, spread_row, spread_all]
  rfl

/-- The mask at a row, said of the numbers. -/
theorem clear_row (z : FVec Ideal Cert.Rows.Sz .f32) (w : FVec Ideal Sw .f32) (r : Fin 16384)
    (h : (Cert.On_clear_rows.fn (F := Ideal) z w).1 (ix1 r) = 1#1) (f : FVec Ideal Sf .f32)
    (hf : f = shapeCast Sf z Cert.On_clear_rows.Gen.facts.shapeCasts_S16x1024x256_S16384x256) :
    ∃ k s p n, Leads f w r k s p n := by
  unfold Cert.On_clear_rows.fn Cert.On_clear_rows.fn_part1 at h
  dsimp only at h
  rw [← hf] at h
  clear hf z
  generalize Cert.On_clear_rows.fn_argmax (F := Ideal) _ = A at h
  generalize hD : Host.dotGeneral (F := Ideal) _ _ _ _ = D at h
  generalize hN : Host.reduceAdd (F := Ideal) (mulf w w) _ _ _ = N at h
  generalize hM : Host.reduce FloatOps.maximumf D _ _ _ = M at h
  generalize hG : Host.reduce FloatOps.maximumf N _ _ _ = G at h
  generalize hL : Host.reduce FloatOps.minimumf N _ _ _ = L at h
  obtain ⟨h1, h3⟩ := Cert.Rows.and_one h
  obtain ⟨h1, h2⟩ := Cert.Rows.and_one h1
  clear h
  have h2 := fun d : Fin 256 => Host.reduce_andi_eq_one _ _ _ _ _ h2 (ix2 r d) (by
    funext a; apply Fin.ext; match a with | ⟨0, _⟩ => rfl)
  have h1 : ∀ j : Fin 8192, IntOp.ori (IntOp.cmpi .eq (BitVec.ofNat 32 j.val) (A (ix1 r)))
      (Ideal.cmp .ogt (M (ix1 r) - D (ix2 r j)) (G (fun a => a.elim0) - L (fun a => a.elim0))) = 1#1 := by
    intro j
    have := Host.reduce_andi_eq_one _ _ _ _ _ h1 (ix2 r j) (by
      funext a; apply Fin.ext; match a with | ⟨0, _⟩ => rfl)
    clear h1 hD hN hM hG hL
    exact (mask_word A M D G L r j).symm.trans this
  have h3 := fun (j : Fin 8192) (d : Fin 256) => Host.reduce_andi_eq_one _ _ _ _ _ h3 (ix2 j d) (by
    funext a; exact a.elim0)
  have h2 := fun d => Cert.Rows.finite_of_abs (h2 d)
  have h3 := fun j d => Cert.Rows.finite_of_abs (h3 j d)
  have hDp : ∀ j, D (ix2 r j) = prod f w r j := by
    intro j
    rw [← hD]
    pointwise [prod, two]
  have hNp : ∀ j, N (ix1 j) = wnorm w j := by
    intro j
    rw [← hN]
    pointwise [wnorm]
  obtain ⟨s, hs⟩ : ∃ s : ℝ, norm f r = s := sum_real _ fun d => mul_real (h2 d) (h2 d)
  have hp : ∀ j, ∃ p : ℝ, prod f w r j = p := fun j => sum_real _ fun d => mul_real (mul_real two_real (h2 d)) (h3 j d)
  have hn : ∀ j, ∃ n : ℝ, wnorm w j = n := fun j => sum_real _ fun d => mul_real (h3 j d) (h3 j d)
  choose p hp using hp
  choose n hn using hn
  have hb : Ideal.ofBits .f32 4286578688#32 = ⊥ := by simp [Ideal.ofBits, Ideal.ieee]
  have ht : Ideal.ofBits .f32 2139095040#32 = ⊤ := by simp [Ideal.ofBits, Ideal.ieee]
  obtain ⟨k, ek⟩ : ∃ k, M (ix1 r) = ((p k : ℝ) : EReal) := by
    rw [← hM]
    exact (host_max (ι := Fin 8192) _ _ _ _ (ix1 r) p (fun j => ix2 r j) (fun j => by
      funext a; apply Fin.ext; match a with | ⟨0, _⟩ => rfl) (fun i hi => ⟨i 1, by
        funext a; apply Fin.ext
        match a with
        | ⟨0, _⟩ => exact congrArg Fin.val (congrFun hi 0)
        | ⟨1, _⟩ => rfl⟩) (fun j => (hDp j).trans (hp j)) hb).imp fun _ hm => hm.2
  have hs1 : ∀ i : Cert.On_clear_rows.S8192.Idx, ∃ a : Fin 8192, i = ix1 a := fun i => ⟨i 0, by
    funext a; apply Fin.ext; match a with | ⟨0, _⟩ => rfl⟩
  obtain ⟨a, ha, ea⟩ : ∃ a, (∀ j, n j ≤ n a) ∧ G (fun a => a.elim0) = ((n a : ℝ) : EReal) := by
    rw [← hG]
    exact host_max (ι := Fin 8192) _ _ _ _ (fun a => a.elim0) n (fun j => ix1 j) (fun j => funext fun a => a.elim0)
      (fun i _ => hs1 i) (fun j => (hNp j).trans (hn j)) hb
  obtain ⟨b, hb, eb⟩ : ∃ b, (∀ j, n b ≤ n j) ∧ L (fun a => a.elim0) = ((n b : ℝ) : EReal) := by
    rw [← hL]
    exact host_min (ι := Fin 8192) _ _ _ _ (fun a => a.elim0) n (fun j => ix1 j) (fun j => funext fun a => a.elim0)
      (fun i _ => hs1 i) (fun j => (hNp j).trans (hn j)) ht
  refine ⟨k, s, p, n, hs, hp, hn, lead_of_mask (fun j : Fin 8192 => BitVec.ofNat 32 j.val) (fun _ _ => word_inj) p n (A (ix1 r)) k a b ha hb fun j => ?_⟩
  have := h1 j
  rw [hDp, hp, ek, ea, eb] at this
  exact this

/-! ## The first greatest entry -/

/-- A fold that keeps the greater of two entries ends in the entry that exceeds every other. -/
theorem foldl_greatest {β : Type} (g : EReal × β → EReal × β → EReal × β)
    (hl : ∀ a b, b.1 < a.1 → g a b = a) (hr : ∀ a b, a.1 < b.1 → g a b = b) (he : ∀ a, g a a = a)
    (hm : ∀ a b, (g a b).1 = a.1 ∨ (g a b).1 = b.1) (q : EReal × β) :
    ∀ (l : List (EReal × β)) (a : EReal × β), (∀ x ∈ l, x = q ∨ x.1 < q.1) → (a = q ∨ a.1 < q.1 ∧ q ∈ l) → l.foldl g a = q := by
  intro l
  induction l with
  | nil =>
    rintro a - (h | h)
    · exact h
    · exact absurd h.2 List.not_mem_nil
  | cons x l ih =>
    intro a hx ha
    refine ih _ (fun y hy => hx y (List.mem_cons_of_mem _ hy)) ?_
    have hxq := hx x List.mem_cons_self
    rcases ha with rfl | ⟨ha, hq⟩
    · left
      rcases hxq with rfl | h
      · exact he _
      · exact hl _ _ h
    · rcases hxq with rfl | h
      · exact .inl (hr _ _ ha)
      · right
        refine ⟨?_, ?_⟩
        · rcases hm a x with e | e <;> rw [e] <;> assumption
        · rcases List.mem_cons.1 hq with e | e
          · exact absurd (e ▸ h) (lt_irrefl _)
          · exact e

end Cert.Lead

end
-- ==== Proof.Codes.Window.lean ====
/-
  The codes' array after the search's run, entry by entry: each row's entry is what its grid point wrote for it.
-/
module

public import proofs.«01_k».proof.Proof.Codes.Point
public import proofs.«01_k».proof.Proof.Codes.Lead
public import Idealize.ShloMosaic.Lib.Pipeline.ValueKit.Point

@[expose] public section

set_option maxRecDepth 65536

noncomputable section

namespace Cert.CodesIdeal.Search

open Cert.CodesIdeal Cert.CodesIdeal.Gen Cert.CodesIdeal.Value Idealize.ShloMosaic Idealize.ShloMosaic.TcCoe Idealize.SL.Sem
open Cert.Lead (Sf Sw)

/-- A grid point's codes, read back. -/
theorem out_at (c : Dev nD) (i : grid0.Coords) (arg1 : Memref sig .tc .vmem S1024x256 .f32) (harg1 : arg1.IsWhole) (arg2 : Memref sig .tc .vmem S8192x256 .f32) (harg2 : arg2.IsWhole)
    (arg3 : Memref sig .tc .vmem S1024 .i32) (harg3 : arg3.IsWhole) (arg4 : Memref sig .tc .smem S1x1x1 .f32) (harg4 : arg4.IsWhole) (arg5 : Memref sig .tc .vmem S1024x2048 .f32) (harg5 : arg5.IsWhole)
    (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole)
    (x0 : Vec Ideal S1024x256 .f32) (x1 : Vec Ideal S8192x256 .f32) (sb : Fin 8) (l : Fin 128) (s : ℝ) (p : Fin 8192 → ℝ) (k : Fin 8192)
    (hs : ∑ d : Fin 256, (x0 (ix2 (rowAt sb l) d) : EReal) * x0 (ix2 (rowAt sb l) d) = (s : EReal))
    (hp : ∀ j, prodAt x0 x1 (rowAt sb l) j = ((p j : ℝ) : EReal)) (hk : ∀ j, j ≠ k → p j < p k) :
    out0_A_2 c i arg1 harg1 arg2 harg2 arg3 harg3 arg4 harg4 arg5 harg5 arg6 harg6 arg7 harg7 arg8 harg8 x0 x1 (ix1 (rowAt sb l)) = BitVec.ofNat 32 k.val := by
  unfold out0_A_2
  rw [pieces_eq, parts_eq, read_pieces]
  refine code_at _ _ sb l s p k ?_ (fun n h l' => ?_) hk
  · rw [rows_at]
    refine (Finset.sum_congr rfl fun d _ => ?_).trans hs
    rw [rowsOf_at]
  · rw [tile_at _ _ _ _ _ sb n ⟨n / 16, by omega⟩ rfl, products_at _ _ _ _ x0 x1 _ _ _ (entryAt n h l') (by
      show n * 128 + l'.val = n / 16 * 2048 + (n % 16 * 128 + l'.val)
      omega), hp]

/-- Where each window's block lies, at each grid point. -/
theorem index_at : ∀ t : Fin cfg0.N, win0_0.index t = ![t.val, 0] ∧ win0_1.index t = ![0, 0] ∧ win0_2.index t = ![t.val] :=
  (by decide +kernel : ∀ t : Fin grid0.N, win0_0.index t = ![t.val, 0] ∧ win0_1.index t = ![0, 0] ∧ win0_2.index t = ![t.val])

variable (m : (ℓ : Loc nD τ sig) → Buf (Elt Ideal) ℓ)

/-- The row of the array that row `y` of grid point `t` is. -/
def gridRow (t : Fin cfg0.N) (y : Fin 1024) : Fin 16384 := ⟨t.val * 1024 + y.val, by have : t.val < 16 := t.isLt; omega⟩

/-- A grid point's block of rows, entry by entry. -/
theorem rows_iblk (c : Dev nD) (t : Fin cfg0.N) (y : Fin 1024) (d : Fin 256) :
    (iblk m c 0 t (ix2 y d) : EReal) = (V m c main_v0 : FVec Ideal Sf .f32) (ix2 (gridRow t y) d) := by
  unfold gridRow
  blk_ext [iblk, (index_at t).1]

/-- Every grid point's block of the table is the table. -/
theorem table_iblk (c : Dev nD) (t : Fin cfg0.N) (j : Fin 8192) (d : Fin 256) :
    (iblk m c 1 t (ix2 j d) : EReal) = m ((c.tc : Thread nD τ).loc main_arg1) (ix2 j d) := by
  blk_ext [iblk, (index_at t).2.1, V_main_arg1]

/-- An entry of the final codes is what its row's grid point wrote. -/
theorem final_at (c : Dev nD) (t : Fin cfg0.N) (y : Fin 1024) :
    ((dats m 0 c).arrAt 2 cfg0.N : IVec S16384 32) (ix1 (gridRow t y))
      = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) : IVec S1024 32) (ix1 y) := by
  have h := congrFun ((blocks2 m c t (flush0_2 t)).trans (flushed2_A m c t)) (ix1 y)
  refine Eq.trans ?_ h
  unfold gridRow
  blk_ext [(index_at t).2.2]

/-- The rows that the search reads are the first argument, reshaped. -/
theorem rows_entry (c : Dev nD) (h : _) : (V m c main_v0 : FVec Ideal Sf .f32) = shapeCast Sf (m ((c.tc : Thread nD τ).loc main_arg0)) h := by
  entry_read
  rfl

/-- The code of a row that leads is its leading row of the table. -/
theorem code_final (c : Dev nD) (r : Fin 16384) (f : FVec Ideal Sf .f32) (w : FVec Ideal Sw .f32) (hf : (V m c main_v0 : FVec Ideal Sf .f32) = f)
    (hw : m ((c.tc : Thread nD τ).loc main_arg1) = w) (k : Fin 8192) (s : ℝ) (p n : Fin 8192 → ℝ) (h : Cert.Lead.Leads f w r k s p n) :
    ((dats m 0 c).arrAt 2 cfg0.N : IVec S16384 32) (ix1 r) = BitVec.ofNat 32 k.val := by
  have hr := r.isLt
  let t : Fin cfg0.N := ⟨r.val / 1024, by show r.val / 1024 < 16; omega⟩
  let sb : Fin 8 := ⟨r.val % 1024 / 128, by omega⟩
  let l : Fin 128 := ⟨r.val % 128, by omega⟩
  have hrow : gridRow t (rowAt sb l) = r := Fin.ext (by
    show r.val / 1024 * 1024 + (r.val % 1024 / 128 * 128 + r.val % 128) = r.val
    omega)
  have hx : ∀ d, (iblk m c 0 t (ix2 (rowAt sb l) d) : EReal) = f (ix2 r d) := fun d => by
    rw [rows_iblk m c t (rowAt sb l) d, hf, hrow]
  have hy : ∀ j d, (iblk m c 1 t (ix2 j d) : EReal) = w (ix2 j d) := fun j d => by
    rw [table_iblk m c t j d, hw]
  rw [← hrow, final_at m c t (rowAt sb l)]
  refine out_at c _ _ _ _ _ _ _ _ _ _ _ _ _ _ _ _ _ _ _ sb l s p k ?_ (fun j => ?_) fun j hj => (h.lead j hj).1
  · refine Eq.trans (Finset.sum_congr rfl fun d _ => ?_) h.row
    exact congrArg₂ (fun a b : EReal => a * b) (hx d) (hx d)
  · refine Eq.trans (Finset.sum_congr rfl fun d _ => ?_) (h.prods j)
    refine congrArg₂ (fun a b : EReal => a * b) ?_ (hy j d)
    exact (congrArg (fun a : EReal => a * Cert.Lead.two) (hx d)).trans (mul_comm _ _)

end Cert.CodesIdeal.Search

end
-- ==== Proof.Codes.Totals.lean ====
/-
  The sums' array after the search's run, entry by entry: each is the sum of its 1024 rows' least scores.
-/
module

public import proofs.«01_k».proof.Proof.Codes.Sums
public import proofs.«01_k».proof.Proof.Codes.Window

@[expose] public section

set_option maxRecDepth 65536

noncomputable section

namespace Cert.CodesIdeal.Search

open Cert.CodesIdeal Cert.CodesIdeal.Gen Cert.CodesIdeal.Value Idealize.ShloMosaic Idealize.ShloMosaic.TcCoe Idealize.SL.Sem
open Cert.Lead (Sf Sw)

/-- A double sum over the sub-blocks and their rows is the sum over the 1024 rows. -/
theorem sum_rows (g : Fin 1024 → EReal) : ∑ sb : Fin 8, ∑ i : Fin 128, g (rowAt sb i) = ∑ y, g y := by
  rw [← Fintype.sum_prod_type' (f := fun sb i => g (rowAt sb i))]
  refine Fintype.sum_equiv (finProdFinEquiv (m := 8) (n := 128)) _ g fun q => congrArg g (Fin.ext ?_)
  show q.1.val * 128 + q.2.val = q.2.val + 128 * q.1.val
  omega

/-- The one number stored, read back through any view. -/
theorem read_one (v : View sig .tc .smem S1x1x1 .f32) (f : v.ty.Contents (Elt Ideal)) (s : EReal) (y : S1x1x1.Idx) :
    v.read (Elt Ideal) (v.writes (Elt Ideal) f [⟨Rect.unit (s := S1x1x1) ![0, 0, 0] S1x1x1.size inb_S1x1x1_S1x1x1_0_0_0, fun _ => s⟩]) y = s := by
  refine View.read_writes_apply_of_pieces v f (fun _ => s) _ (fun p hp x => ?_) y
    ⟨_, List.mem_singleton_self _, View.mem_set_unit_zero (by funext a; fin_cases a <;> rfl) inb_S1x1x1_S1x1x1_0_0_0 y⟩
  obtain rfl := List.mem_singleton.1 hp
  rfl

/-- A grid point's sum, read back. -/
theorem sum_at (c : Dev nD) (i : grid0.Coords) (arg1 : Memref sig .tc .vmem S1024x256 .f32) (harg1 : arg1.IsWhole) (arg2 : Memref sig .tc .vmem S8192x256 .f32) (harg2 : arg2.IsWhole)
    (arg3 : Memref sig .tc .vmem S1024 .i32) (harg3 : arg3.IsWhole) (arg4 : Memref sig .tc .smem S1x1x1 .f32) (harg4 : arg4.IsWhole) (arg5 : Memref sig .tc .vmem S1024x2048 .f32) (harg5 : arg5.IsWhole)
    (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole)
    (x0 : Vec Ideal S1024x256 .f32) (x1 : Vec Ideal S8192x256 .f32) (y : S1x1x1.Idx) (s : Fin 1024 → EReal) (p : Fin 1024 → Fin 8192 → EReal)
    (hs : ∀ r, ∑ d : Fin 256, (x0 (ix2 r d) : EReal) * x0 (ix2 r d) = s r) (hp : ∀ r j, prodAt x0 x1 r j = p r j) :
    out0_A_3 c i arg1 harg1 arg2 harg2 arg3 harg3 arg4 harg4 arg5 harg5 arg6 harg6 arg7 harg7 arg8 harg8 x0 x1 y = ∑ r : Fin 1024, ⨅ j, (s r - p r j) := by
  unfold out0_A_3
  rw [sums_eq, parts_eq, read_one, total_at, ← sum_rows]
  refine Finset.sum_congr rfl fun sb _ => Finset.sum_congr rfl fun l _ => eq_of_forall_le_iff fun c => ?_
  rw [le_iInf_iff]
  refine le_rowLeast_iff _ _ sb l (s (rowAt sb l)) (p (rowAt sb l)) ?_ (fun n h l' => ?_) c
  · rw [rows_at]
    refine (Finset.sum_congr rfl fun d _ => ?_).trans (hs _)
    rw [rowsOf_at]
  · rw [tile_at _ _ _ _ _ sb n ⟨n / 16, by omega⟩ rfl, products_at _ _ _ _ x0 x1 _ _ _ (entryAt n h l') (by
      show n * 128 + l'.val = n / 16 * 2048 + (n % 16 * 128 + l'.val)
      omega), hp]

/-- Where the sums' block lies, at each grid point. -/
theorem sum_index_at : ∀ t : Fin cfg0.N, win0_3.index t = ![t.val, 0, 0] :=
  (by decide +kernel : ∀ t : Fin grid0.N, win0_3.index t = ![t.val, 0, 0])

variable (m : (ℓ : Loc nD τ sig) → Buf (Elt Ideal) ℓ)

/-- An entry of the final sums is what its grid point wrote. -/
theorem sum_final_at (c : Dev nD) (t : Fin cfg0.N) (t' : Fin 16) (ht : t'.val = t.val) :
    ((dats m 0 c).arrAt 3 cfg0.N : FVec Ideal S16x1x1 .f32) (ix3 t' (0 : Fin 1) (0 : Fin 1))
      = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) : FVec Ideal S1x1x1 .f32) (ix3 (0 : Fin 1) (0 : Fin 1) (0 : Fin 1)) := by
  have h := congrFun ((blocks3 m c t (flush0_3 t)).trans (flushed3_A m c t)) (ix3 (0 : Fin 1) (0 : Fin 1) (0 : Fin 1))
  refine Eq.trans ?_ h
  blk_ext [sum_index_at t, ht]

/-- The search's sums are those of the least scores. -/
theorem sum_final (c : Dev nD) (t : Fin 16) (f : FVec Ideal Sf .f32) (w : FVec Ideal Sw .f32) (hf : (V m c main_v0 : FVec Ideal Sf .f32) = f)
    (hw : m ((c.tc : Thread nD τ).loc main_arg1) = w) :
    ((dats m 0 c).arrAt 3 cfg0.N : FVec Ideal S16x1x1 .f32) (ix3 t (0 : Fin 1) (0 : Fin 1)) = Cert.Lead.lowSum f w t := by
  have hrow : ∀ y, gridRow t y = Cert.Lead.rowOf t y := fun _ => rfl
  have hx : ∀ y d, (iblk m c 0 t (ix2 y d) : EReal) = f (ix2 (Cert.Lead.rowOf t y) d) := fun y d => by
    rw [rows_iblk m c t y d, hf, hrow]
  have hy : ∀ j d, (iblk m c 1 t (ix2 j d) : EReal) = w (ix2 j d) := fun j d => by
    rw [table_iblk m c t j d, hw]
  rw [sum_final_at m c t t rfl]
  refine sum_at c _ _ _ _ _ _ _ _ _ _ _ _ _ _ _ _ _ _ _ _ (fun y => Cert.Lead.norm f (Cert.Lead.rowOf t y)) (fun y => Cert.Lead.prod f w (Cert.Lead.rowOf t y))
    (fun y => Finset.sum_congr rfl fun d _ => ?_) (fun y j => Finset.sum_congr rfl fun d _ => ?_)
  · exact congrArg₂ (fun a b : EReal => a * b) (hx y d) (hx y d)
  · refine congrArg₂ (fun a b : EReal => a * b) ?_ (hy j d)
    exact (congrArg (fun a : EReal => a * Cert.Lead.two) (hx y d)).trans (mul_comm _ _)

end Cert.CodesIdeal.Search

end
-- ==== Proof.Codes.Reference.lean ====
/-
  The reference of the codes: on a row that leads, the first least distance is at the leading row of the table.
-/
module

public import proofs.«01_k».proof.Proof.Codes.Lead
public import proofs.«01_k».proof.Proof.Gen.CodesReferenceIdeal
public import proofs.«01_k».proof.Defs
public import Idealize.ShloMosaic.Lib.Claim

@[expose] public section

noncomputable section

namespace Cert.Lead

open Idealize.ShloMosaic

open Cert.CodesReferenceIdeal Cert.CodesReferenceIdeal.Gen in
/-- The printed body of the reference's search, at two entries. -/
theorem body_greatest :
    (∀ a b : EReal × BitVec 32, b.1 < a.1 → reducer_argmax_f32_i32 (F := Ideal) a b = a)
    ∧ (∀ a b : EReal × BitVec 32, a.1 < b.1 → reducer_argmax_f32_i32 (F := Ideal) a b = b)
    ∧ (∀ a : EReal × BitVec 32, reducer_argmax_f32_i32 (F := Ideal) a a = a)
    ∧ ∀ a b : EReal × BitVec 32, (reducer_argmax_f32_i32 (F := Ideal) a b).1 = a.1 ∨ (reducer_argmax_f32_i32 (F := Ideal) a b).1 = b.1 := by
  unfold reducer_argmax_f32_i32
  refine ⟨fun a b h => ?_, fun a b h => ?_, fun a => ?_, fun a b => ?_⟩
  · simp [Ideal.cmpf_def, Ideal.cmp, h, h.ne', IntOp.ori, IntOp.andi, Scalar.select]
  · simp [Ideal.cmpf_def, Ideal.cmp, h.not_gt, h.ne, IntOp.ori, IntOp.andi, Scalar.select]
  · simp [Ideal.cmpf_def, Ideal.cmp, IntOp.ori, IntOp.andi, Scalar.select]
  · unfold Scalar.select
    dsimp only
    split
    · exact .inl rfl
    · exact .inr rfl

open Cert.CodesReferenceIdeal Cert.CodesReferenceIdeal.Gen in
/-- The search over a row whose entry at `k` exceeds every other ends at `k`. -/
theorem argmax_at (x : FVec Ideal Sp .f32) (r : Fin 16384) (k : Fin 8192) (hk : ∀ j, j ≠ k → x (ix2 r j) < x (ix2 r k)) :
    (Host.argReduce reducer_argmax_f32_i32 x (iotaInDim S16384x8192 32 1) (constant (F := Ideal) S_ .f32 0xFF800000#32) (constantI S_ 32 0#32)
      Facts₀.reducesTo_S16384x8192_S16384_d1 Facts₀.h_S_ (ix1 r)).2 = BitVec.ofNat 32 k.val := by
  rw [Ideal.argReduce_eq_reduce2, Host.reduce2_eq_foldl_fiber]
  obtain ⟨hl, hr, he, hm⟩ := body_greatest
  have key := foldl_greatest _ hl hr he hm (x (ix2 r k), BitVec.ofNat 32 k.val)
  have hmem : ∀ q, q ∈ Host.argReduceFiber x (iotaInDim S16384x8192 32 1) Facts₀.reducesTo_S16384x8192_S16384_d1 (ix1 r)
      ↔ ∃ j : Fin 8192, q = (x (ix2 r j), BitVec.ofNat 32 j.val) := by
    intro q
    unfold Host.argReduceFiber
    rw [List.mem_map]
    constructor
    · rintro ⟨n, hn, rfl⟩
      have hd := of_decide_eq_true (List.mem_filter.1 hn).2
      generalize S16384x8192.rowMajor.symm n = i at hd
      refine ⟨i 1, ?_⟩
      have hi : i = ix2 r (i 1) := by
        funext a; apply Fin.ext
        match a with
        | ⟨0, _⟩ => exact congrArg Fin.val (congrFun hd 0)
        | ⟨1, _⟩ => rfl
      exact Prod.ext (congrArg x hi) rfl
    · rintro ⟨j, rfl⟩
      refine ⟨S16384x8192.rowMajor (ix2 r j), List.mem_filter.2 ⟨List.mem_finRange _, decide_eq_true ?_⟩, ?_⟩
      · rw [Equiv.symm_apply_apply]
        funext a; apply Fin.ext; match a with | ⟨0, _⟩ => rfl
      · rw [Equiv.symm_apply_apply]
        rfl
  refine congrArg Prod.snd (key _ _ ?_ ?_)
  · intro q hq
    obtain ⟨j, rfl⟩ := (hmem q).1 hq
    by_cases e : j = k
    · exact .inl (by rw [e])
    · exact .inr (hk j e)
  · refine .inr ⟨?_, (hmem _).2 ⟨k, rfl⟩⟩
    obtain ⟨j, hj⟩ : ∃ j, j ≠ k := ⟨k + 1, by simp⟩
    refine lt_of_le_of_lt ?_ (hk j hj)
    have hb : Ideal.ofBits .f32 0xFF800000#32 = ⊥ := by simp [Ideal.ofBits, Ideal.ieee]
    exact (le_of_eq hb).trans bot_le

open Cert.CodesReferenceIdeal Cert.CodesReferenceIdeal.Gen in
/-- The reference runs, leaves its arguments, and ends with every counter at zero. -/
theorem frame_reference : Cert.quiescent_CodesReferenceIdeal := by
  intro m g _
  hlo_run
  · exact fun _ => ⟨trivial, trivial⟩
  · exact sem_eq_zero_of_no_sems (by decide) _

open Cert.CodesReferenceIdeal Cert.CodesReferenceIdeal.Gen in
/-- The reference's distances, negated: the squared norm of a row less the products, plus the table's squared norms. -/
def negDist (f : FVec Ideal Sf .f32) (w : FVec Ideal Sw .f32) : FVec Ideal Sp .f32 :=
  Host.negf (addf (subf (broadcastInDim S16384x8192 ![0, 1] Facts₀.bcast_S16384x1_S16384x8192_0_1 (broadcastInDim S16384x1 ![0] Facts₀.bcast_S16384_S16384x1_0
      (Host.reduceAdd (mulf f f) (constant (F := Ideal) S_ .f32 0x00000000#32) Facts₀.reducesTo_S16384x256_S16384_d1 Facts₀.h_S_)))
    (Host.dotGeneral dot_S16384x256_S256x8192_S16384x8192_1_0_0_1_n_n none
      (mulf (broadcastInDim S16384x256 ![] Facts₀.bcast_S_S16384x256 (constant (F := Ideal) S_ .f32 0x40000000#32)) f)
      (transpose S256x8192 [1, 0] w Facts₀.transposes_S8192x256_S256x8192_1_0)))
    (broadcastInDim S16384x8192 ![0, 1] Facts₀.bcast_S1x8192_S16384x8192_0_1 (broadcastInDim S1x8192 ![1] Facts₀.bcast_S8192_S1x8192_1
      (Host.reduceAdd (mulf w w) (constant (F := Ideal) S_ .f32 0x00000000#32) Facts₀.reducesTo_S8192x256_S8192_d1 Facts₀.h_S_))))

open Cert.CodesReferenceIdeal Cert.CodesReferenceIdeal.Gen in
/-- The negated distances, entry by entry, from their three terms. -/
theorem neg_at (A B C : FVec Ideal S16384x8192 .f32) (i : S16384x8192.Idx) : Host.negf (addf (subf A B) C) i = -((A i - B i) + C i) := rfl

open Cert.CodesReferenceIdeal Cert.CodesReferenceIdeal.Gen in
/-- A vector over the rows, spread over the table's rows. -/
theorem over_rows {α : Type} (v : S16384.Idx → α) (r : Fin 16384) (j : Fin 8192) :
    broadcastInDim S16384x8192 ![0, 1] Facts₀.bcast_S16384x1_S16384x8192_0_1
      (broadcastInDim S16384x1 ![0] Facts₀.bcast_S16384_S16384x1_0 v) (ix2 r j) = v (ix1 r) := by
  unfold broadcastInDim
  refine congrArg v (funext fun a => Fin.ext ?_)
  match a with
  | ⟨0, _⟩ => rfl

open Cert.CodesReferenceIdeal Cert.CodesReferenceIdeal.Gen in
/-- A vector over the table's rows, spread over the rows. -/
theorem over_table {α : Type} (v : S8192.Idx → α) (r : Fin 16384) (j : Fin 8192) :
    broadcastInDim S16384x8192 ![0, 1] Facts₀.bcast_S1x8192_S16384x8192_0_1
      (broadcastInDim S1x8192 ![1] Facts₀.bcast_S8192_S1x8192_1 v) (ix2 r j) = v (ix1 j) := by
  unfold broadcastInDim
  refine congrArg v (funext fun a => Fin.ext ?_)
  match a with
  | ⟨0, _⟩ => rfl

open Cert.CodesReferenceIdeal Cert.CodesReferenceIdeal.Gen in
/-- An entry of the host product. -/
theorem dot_at (f : FVec Ideal Sf .f32) (w : FVec Ideal Sw .f32) (r : Fin 16384) (j : Fin 8192) :
    Host.dotGeneral dot_S16384x256_S256x8192_S16384x8192_1_0_0_1_n_n none
      (mulf (broadcastInDim S16384x256 ![] Facts₀.bcast_S_S16384x256 (constant (F := Ideal) S_ .f32 0x40000000#32)) f)
      (transpose S256x8192 [1, 0] w Facts₀.transposes_S8192x256_S256x8192_1_0) (ix2 r j) = prod f w r j := by
  pointwise [prod, two]

open Cert.CodesReferenceIdeal Cert.CodesReferenceIdeal.Gen in
/-- A row's squared norm, as the host sums it. -/
theorem norm_at (f : FVec Ideal Sf .f32) (r : Fin 16384) :
    Host.reduceAdd (mulf f f) (constant (F := Ideal) S_ .f32 0x00000000#32) Facts₀.reducesTo_S16384x256_S16384_d1 Facts₀.h_S_ (ix1 r) = norm f r := by
  pointwise [norm]

open Cert.CodesReferenceIdeal Cert.CodesReferenceIdeal.Gen in
/-- A table row's squared norm, as the host sums it. -/
theorem wnorm_at (w : FVec Ideal Sw .f32) (j : Fin 8192) :
    Host.reduceAdd (mulf w w) (constant (F := Ideal) S_ .f32 0x00000000#32) Facts₀.reducesTo_S8192x256_S8192_d1 Facts₀.h_S_ (ix1 j) = wnorm w j := by
  pointwise [wnorm]

/-- The negated distance of a row from a table row. -/
theorem negDist_at (f : FVec Ideal Sf .f32) (w : FVec Ideal Sw .f32) (r : Fin 16384) (j : Fin 8192) :
    negDist f w (ix2 r j) = -((norm f r - prod f w r j) + wnorm w j) := by
  unfold negDist
  rw [neg_at, over_rows, over_table, dot_at, norm_at, wnorm_at]

/-- On a row that leads, the first least distance is at the leading row of the table. -/
theorem nearest_at (f : FVec Ideal Sf .f32) (w : FVec Ideal Sw .f32) (x : FVec Ideal Sp .f32)
    (hx : ∀ r j, x (ix2 r j) = -((norm f r - prod f w r j) + wnorm w j)) (r : Fin 16384) (k : Fin 8192) (s : ℝ) (p n : Fin 8192 → ℝ)
    (h : Leads f w r k s p n) : ∀ j, j ≠ k → x (ix2 r j) < x (ix2 r k) := by
  intro j hj
  rw [hx, hx, h.row, h.prods, h.prods, h.norms, h.norms]
  have := (h.lead j hj).2
  rw [← EReal.coe_sub, ← EReal.coe_sub, ← EReal.coe_add, ← EReal.coe_add, ← EReal.coe_neg, ← EReal.coe_neg, EReal.coe_lt_coe_iff]
  linarith

open Cert.CodesReferenceIdeal Cert.CodesReferenceIdeal.Gen in
/-- The reference's least scores: of each row, over the table, its squared norm less the products. -/
def leastOf (f : FVec Ideal Sf .f32) (w : FVec Ideal Sw .f32) : FVec Ideal S16384 .f32 :=
  Host.reduce FloatOps.minimumf
    (subf (broadcastInDim S16384x8192 ![0, 1] Facts₀.bcast_S16384x1_S16384x8192_0_1 (broadcastInDim S16384x1 ![0] Facts₀.bcast_S16384_S16384x1_0
        (Host.reduceAdd (mulf f f) (constant (F := Ideal) S_ .f32 0x00000000#32) Facts₀.reducesTo_S16384x256_S16384_d1 Facts₀.h_S_)))
      (Host.dotGeneral dot_S16384x256_S256x8192_S16384x8192_1_0_0_1_n_n none
        (mulf (broadcastInDim S16384x256 ![] Facts₀.bcast_S_S16384x256 (constant (F := Ideal) S_ .f32 0x40000000#32)) f)
        (transpose S256x8192 [1, 0] w Facts₀.transposes_S8192x256_S256x8192_1_0)))
    (constant (F := Ideal) S_ .f32 0x7F800000#32) Facts₀.reducesTo_S16384x8192_S16384_d1 Facts₀.h_S_

open Cert.CodesReferenceIdeal Cert.CodesReferenceIdeal.Gen in
/-- The reference's sums of them, over each 1024 rows. -/
def sumsOf (x : FVec Ideal S16384 .f32) : FVec Ideal S16x1x1 .f32 :=
  shapeCast S16x1x1 (Host.reduceAdd (shapeCast S16x1024 x Facts₀.shapeCasts_S16384_S16x1024) (constant (F := Ideal) S_ .f32 0x00000000#32)
    Facts₀.reducesTo_S16x1024_S16_d1 Facts₀.h_S_) Facts₀.shapeCasts_S16_S16x1x1

/-- A host reduction by the lesser is the infimum of its entries. -/
theorem host_inf {s t u : Shape} {axes : List (Fin s.rank)} {ι : Type} (x : FVec Ideal s .f32) (init : FVec Ideal u .f32) (h : s.ReducesTo axes t)
    (hu : 0 < u.numel) (j : t.Idx) (p : ι → EReal) (e : ι → s.Idx) (he : ∀ a, h.drop (e a) = j) (hs : ∀ i, h.drop i = j → ∃ a, i = e a)
    (hx : ∀ a, x (e a) = p a) (hi : init (Shape.Idx.first hu) = (⊤ : EReal)) :
    Host.reduce FloatOps.minimumf x init h hu j = ⨅ a, p a := by
  rw [Host.reduce_eq_fold]
  refine eq_of_forall_le_iff fun c => (Finset.le_fold_min _).trans ?_
  rw [le_iInf_iff]
  refine ⟨fun H a => (hx a) ▸ H.2 _ (Finset.mem_filter.2 ⟨Finset.mem_univ _, he a⟩), fun H => ⟨hi ▸ le_top, fun i hj => ?_⟩⟩
  obtain ⟨a, rfl⟩ := hs i (Finset.mem_filter.1 hj).2
  rw [hx a]
  exact H a

open Cert.CodesReferenceIdeal Cert.CodesReferenceIdeal.Gen in
/-- The difference of two arrays, entry by entry. -/
theorem sub_at (A B : FVec Ideal S16384x8192 .f32) (i : S16384x8192.Idx) : subf A B i = (A i : EReal) - B i := rfl

open Cert.CodesReferenceIdeal Cert.CodesReferenceIdeal.Gen in
/-- The reference's least score of a row. -/
theorem leastOf_at (f : FVec Ideal Sf .f32) (w : FVec Ideal Sw .f32) (r : Fin 16384) : leastOf f w (ix1 r) = low f w r := by
  have ht : Ideal.ofBits .f32 2139095040#32 = ⊤ := by simp [Ideal.ofBits, Ideal.ieee]
  unfold leastOf low
  refine host_inf (ι := Fin 8192) _ _ _ _ (ix1 r) _ (fun j => ix2 r j) (fun j => by
    funext a; apply Fin.ext; match a with | ⟨0, _⟩ => rfl) (fun i hi => ⟨i 1, by
      funext a; apply Fin.ext
      match a with
      | ⟨0, _⟩ => exact congrArg Fin.val (congrFun hi 0)
      | ⟨1, _⟩ => rfl⟩) (fun j => ?_) ht
  rw [sub_at, over_rows, dot_at, norm_at]

open Cert.CodesReferenceIdeal Cert.CodesReferenceIdeal.Gen in
/-- A sum of the reference is over its own 1024 rows. -/
theorem sumsOf_at (x : FVec Ideal S16384 .f32) (t : Fin 16) : sumsOf x (ix3 t (0 : Fin 1) (0 : Fin 1)) = ∑ y : Fin 1024, (x (ix1 (rowOf t y)) : EReal) := by
  unfold sumsOf rowOf
  pointwise

/-- The reference's sums are those of the least scores. -/
theorem reference_sum (f : FVec Ideal Sf .f32) (w : FVec Ideal Sw .f32) (t : Fin 16) :
    sumsOf (leastOf f w) (ix3 t (0 : Fin 1) (0 : Fin 1)) = lowSum f w t :=
  (sumsOf_at _ t).trans (Finset.sum_congr rfl fun y _ => leastOf_at f w _)

open Cert.CodesReferenceIdeal Cert.CodesReferenceIdeal.Gen in
/-- The reference's run: the codes are the first greatest of the distances, negated, and the sums those of the least scores. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16)
        = (fun j => (Host.argReduce reducer_argmax_f32_i32 (negDist (shapeCast Sf (m ((c.tc : Thread nD τ).loc main_arg0)) Facts₀.shapeCasts_S16x1024x256_S16384x256) (m ((c.tc : Thread nD τ).loc main_arg1)))
            (iotaInDim S16384x8192 32 1) (constant (F := Ideal) S_ .f32 0xFF800000#32) (constantI S_ 32 0#32) Facts₀.reducesTo_S16384x8192_S16384_d1 Facts₀.h_S_ j).2)
      ∧ r.2.mem ((c.tc : Thread nD τ).loc main_v29)
        = sumsOf (leastOf (shapeCast Sf (m ((c.tc : Thread nD τ).loc main_arg0)) Facts₀.shapeCasts_S16x1024x256_S16384x256) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have arg15 : ∀ (h : main_v15.ty = ⟨S16384x8192, .f32⟩) h' h'' (v : main_v15.ty.Contents (Elt Ideal)), (StableHlo.TRef.of main_v15 h h' h'').ofBuf v = v := fun _ _ _ _ => rfl
  have res16 : ∀ (h : main_v16.ty = ⟨S16384, .i32⟩) h' h'' (v : (⟨S16384, .i32⟩ : BufTy).Contents (Elt Ideal)), (StableHlo.TRef.of main_v16 h h' h'').toBuf v = v := fun _ _ _ _ => rfl
  unfold negDist sumsOf leastOf
  hlo_run
  · simp only [StableHlo.TRef.ofBuf_toBuf]
    rw [res16, arg15]
    rfl
  · rfl

end Cert.Lead

end
-- ==== Proof.Codes.Claims.lean ====
/-
  The claim about the search: on the rows of the mask it and the reference find the same row of the table, and their sums
  of the least scores are equal.
-/
module

public import proofs.«01_k».proof.Proof.Codes.Totals
public import proofs.«01_k».proof.Proof.Codes.Reference

@[expose] public section

noncomputable section

namespace Cert.Lead

open Idealize.ShloMosaic Idealize.SL.Sem

/-- On a row that leads, the reference's code is the leading row of the table. -/
theorem reference_code (f : FVec Ideal Sf .f32) (w : FVec Ideal Sw .f32) (r : Fin 16384) (k : Fin 8192) (s : ℝ) (p n : Fin 8192 → ℝ)
    (h : Leads f w r k s p n) :
    (Host.argReduce Cert.CodesReferenceIdeal.reducer_argmax_f32_i32 (negDist f w)
        (iotaInDim Cert.CodesReferenceIdeal.S16384x8192 32 1) (constant (F := Ideal) Cert.CodesReferenceIdeal.S_ .f32 0xFF800000#32)
        (constantI Cert.CodesReferenceIdeal.S_ 32 0#32) Cert.CodesReferenceIdeal.Facts₀.reducesTo_S16384x8192_S16384_d1
        Cert.CodesReferenceIdeal.Facts₀.h_S_ (ix1 r)).2 = BitVec.ofNat 32 k.val :=
  argmax_at (negDist f w) r k (nearest_at f w (negDist f w) (negDist_at f w) r k s p n h)

/-- An index of the codes is the one-coordinate index of its row. -/
theorem row_index (i : (⟨1, ![16384]⟩ : Shape).Idx) : i = ix1 (i 0 : Fin 16384) := by
  funext a
  match a with
  | ⟨0, _⟩ => rfl

/-- An index of the sums is the one of its 1024 rows. -/
theorem sum_index (i : (⟨3, ![16, 1, 1]⟩ : Shape).Idx) : i = ix3 (i 0 : Fin 16) (0 : Fin 1) (0 : Fin 1) := by
  funext a
  match a with
  | ⟨0, _⟩ => rfl
  | ⟨1, _⟩ => exact Fin.ext (Nat.lt_one_iff.1 (i 1).isLt)
  | ⟨2, _⟩ => exact Fin.ext (Nat.lt_one_iff.1 (i 2).isLt)

/-- On the rows of the mask the two programs' codes are equal, the row of the table that leads; their sums are equal. -/
theorem algebraic : Cert.algebraic_CodesIdeal_CodesReferenceIdeal_on_clear_rows := by
  intro m g m' g' _ hargs
  refine ⟨fun c => (Cert.CodesIdeal.Gen.dats m 0 c).arrAt 2 Cert.CodesIdeal.cfg0.N,
    fun c => (Cert.CodesIdeal.Gen.dats m 0 c).arrAt 3 Cert.CodesIdeal.cfg0.N, ?_, ?_⟩
  · exact (θ_run Cert.CodesIdeal.defs _ _).mono
      (fun _ h c => ⟨fun i _ => congrFun (h c).1 i, fun i _ => congrFun (h c).2.1 i, (h c).2.2.1, (h c).2.2.2⟩)
      (Cert.CodesIdeal.Value.run_blocks m g)
  · refine (θ_run Cert.CodesReferenceIdeal.defs _ _).mono (fun _ h c => ⟨fun i hi => ?_, fun i _ => ?_, (h c).2.2⟩) (reference_run m' g')
    · refine (congrFun (h c).1 i).trans ?_
      rw [(hargs c).1, (hargs c).2]
      rw [row_index i] at hi ⊢
      obtain ⟨k, s, p, n, hl⟩ := clear_row _ _ _ hi _ rfl
      exact (reference_code _ _ _ k s p n hl).trans
        (Cert.CodesIdeal.Search.code_final m c _ _ _ (Cert.CodesIdeal.Search.rows_entry m c _) rfl k s p n hl).symm
    · refine (congrFun (h c).2.1 i).trans ?_
      rw [(hargs c).1, (hargs c).2, sum_index i]
      exact (reference_sum _ _ _).trans (Cert.CodesIdeal.Search.sum_final m c _ _ _ (Cert.CodesIdeal.Search.rows_entry m c _) rfl).symm

end Cert.Lead

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Frame
public import proofs.«01_k».proof.Proof.Gen.CodesReferenceIdeal
public import proofs.«01_k».proof.Proof.Gen.Pre_codes_in_range
public import proofs.«01_k».proof.Proof.Gen.On_clear_rows
public import proofs.«01_k».proof.Proof.Gen.CodesIdeal.Value
public import proofs.«01_k».proof.Proof.Gen.ReferenceIdeal.Run
public import proofs.«01_k».proof.Proof.Gather.Claims
public import proofs.«01_k».proof.Proof.Codes.Claims
public import Idealize.ShloMosaic.Adequacy
public import Idealize.ShloMosaic.Init

@[expose] public section

noncomputable section

namespace Cert.Proof

open Idealize.ShloMosaic Idealize.SL.Sem Cert.Kernel

/-- Every claim: the gather's two programs and their reference, and the search's two programs and their reference. -/
theorem claim : Cert.Claim :=
  ⟨Cert.Kernel.Gen.facts, Cert.KernelIdeal.Gen.facts, Cert.ReferenceIdeal.Gen.facts, Cert.Codes.Gen.facts, Cert.CodesIdeal.Gen.facts,
    Cert.CodesReferenceIdeal.Gen.facts, Cert.Pre_codes_in_range.Gen.facts, Cert.On_clear_rows.Gen.facts,
    Cert.Rows.frame_kernel, Cert.Rows.frame_ideal, Cert.Rows.frame_reference, Cert.Rows.frame_reference_pre,
    fun m ρ _ => Cert.Codes.Gen.frame m ρ, fun m ρ _ => Cert.CodesIdeal.Gen.frame m ρ, Cert.Lead.frame_reference,
    trivial, Cert.Rows.algebraic, trivial, Cert.Lead.algebraic⟩

end Cert.Proof

end
